-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x4096 : Shape := ⟨2, ![8192, 4096]⟩
abbrev S256x4096 : Shape := ⟨2, ![256, 4096]⟩
abbrev S256x1024 : Shape := ⟨2, ![256, 1024]⟩
abbrev S2x1024x4096 : Shape := ⟨3, ![2, 1024, 4096]⟩
abbrev S31 : Shape := ⟨1, ![31]⟩
abbrev S2x4 : Shape := ⟨2, ![2, 4]⟩
abbrev S1x1 : Shape := ⟨2, ![1, 1]⟩
abbrev S_ : Shape := ⟨0, ![]⟩
abbrev S1x256x4096 : Shape := ⟨3, ![1, 256, 4096]⟩
abbrev S1 : Shape := ⟨1, ![1]⟩
abbrev S256x256 : Shape := ⟨2, ![256, 256]⟩
abbrev S1x1024x4096 : Shape := ⟨3, ![1, 1024, 4096]⟩
abbrev S1024x4096 : Shape := ⟨2, ![1024, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x4096, .f32⟩
  | .hbm, ⟨2, _⟩ => ⟨S256x4096, .f32⟩
  | .local _ .vmem, ⟨0, _⟩ => ⟨S8192x256, .bf16⟩
  | .local _ .vmem, ⟨1, _⟩ => ⟨S256x4096, .f32⟩
  | .local _ .vmem, ⟨2, _⟩ => ⟨S8192x256, .bf16⟩
  | .local _ .vmem, ⟨3, _⟩ => ⟨S256x1024, .bf16⟩
  | .local _ .vmem, ⟨4, _⟩ => ⟨S2x1024x4096, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.subi v2 c0_i32
  let c32_i32_0 : BitVec 32 := 32#32
  let c0_i32_1 : BitVec 32 := 0#32
  let v4 : BitVec 1 := Scalar.cmpi .eq c32_i32_0 c0_i32_1
  let c1_i32_2 : BitVec 32 := 1#32
  let v5 : BitVec 32 := Scalar.select v4 c1_i32_2 c32_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let c0_i32_11 : BitVec 32 := 0#32
  ![v14.toNat, 0]
def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v72 : BitVec 32 := Scalar.addi v2 c1_i32_50
  let c32_i32_51 : BitVec 32 := 32#32
  let c0_i32_52 : BitVec 32 := 0#32
  let v73 : BitVec 1 := Scalar.cmpi .eq c32_i32_51 c0_i32_52
  let c1_i32_53 : BitVec 32 := 1#32
  let v74 : BitVec 32 := Scalar.select v73 c1_i32_53 c32_i32_51
  let v75 : BitVec 32 := Scalar.remsi v72 v74
  let c0_i32_55 : BitVec 32 := 0#32
  let v77 : BitVec 1 := Scalar.cmpi .slt v75 c0_i32_55
  let c0_i32_56 : BitVec 32 := 0#32
  let v78 : BitVec 1 := Scalar.cmpi .slt v74 c0_i32_56
  let v79 : BitVec 1 := Scalar.xori v77 v78
  let c0_i32_54 : BitVec 32 := 0#32
  let v76 : BitVec 1 := Scalar.cmpi .ne v75 c0_i32_54
  let v80 : BitVec 1 := Scalar.andi v79 v76
  let v81 : BitVec 32 := Scalar.addi v75 v74
  let v82 : BitVec 32 := Scalar.select v80 v81 v75
  let c1_i32_58 : BitVec 32 := 1#32
  let v83 : BitVec 32 := Scalar.muli v82 c1_i32_58
  let v84 : BitVec 32 := Scalar.addi c0_i32_59 v83
  v84.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_60 : BitVec 32 := 2#32
  let v85 : BitVec 32 := Scalar.addi v2 c2_i32_60
  let c32_i32_61 : BitVec 32 := 32#32
  let c0_i32_62 : BitVec 32 := 0#32
  let v86 : BitVec 1 := Scalar.cmpi .eq c32_i32_61 c0_i32_62
  let c1_i32_63 : BitVec 32 := 1#32
  let v87 : BitVec 32 := Scalar.select v86 c1_i32_63 c32_i32_61
  let v88 : BitVec 32 := Scalar.remsi v85 v87
  let c0_i32_65 : BitVec 32 := 0#32
  let v90 : BitVec 1 := Scalar.cmpi .slt v88 c0_i32_65
  let c0_i32_66 : BitVec 32 := 0#32
  let v91 : BitVec 1 := Scalar.cmpi .slt v87 c0_i32_66
  let v92 : BitVec 1 := Scalar.xori v90 v91
  let c0_i32_64 : BitVec 32 := 0#32
  let v89 : BitVec 1 := Scalar.cmpi .ne v88 c0_i32_64
  let v93 : BitVec 1 := Scalar.andi v92 v89
  let v94 : BitVec 32 := Scalar.addi v88 v87
  let v95 : BitVec 32 := Scalar.select v93 v94 v88
  let c1_i32_68 : BitVec 32 := 1#32
  let v96 : BitVec 32 := Scalar.muli v95 c1_i32_68
  let v97 : BitVec 32 := Scalar.addi c0_i32_69 v96
  v97.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_70 : BitVec 32 := 3#32
  let v98 : BitVec 32 := Scalar.addi v2 c3_i32_70
  let c32_i32_71 : BitVec 32 := 32#32
  let c0_i32_72 : BitVec 32 := 0#32
  let v99 : BitVec 1 := Scalar.cmpi .eq c32_i32_71 c0_i32_72
  let c1_i32_73 : BitVec 32 := 1#32
  let v100 : BitVec 32 := Scalar.select v99 c1_i32_73 c32_i32_71
  let v101 : BitVec 32 := Scalar.remsi v98 v100
  let c0_i32_75 : BitVec 32 := 0#32
  let v103 : BitVec 1 := Scalar.cmpi .slt v101 c0_i32_75
  let c0_i32_76 : BitVec 32 := 0#32
  let v104 : BitVec 1 := Scalar.cmpi .slt v100 c0_i32_76
  let v105 : BitVec 1 := Scalar.xori v103 v104
  let c0_i32_74 : BitVec 32 := 0#32
  let v102 : BitVec 1 := Scalar.cmpi .ne v101 c0_i32_74
  let v106 : BitVec 1 := Scalar.andi v105 v102
  let v107 : BitVec 32 := Scalar.addi v101 v100
  let v108 : BitVec 32 := Scalar.select v106 v107 v101
  let c1_i32_78 : BitVec 32 := 1#32
  let v109 : BitVec 32 := Scalar.muli v108 c1_i32_78
  let v110 : BitVec 32 := Scalar.addi c0_i32_79 v109
  v110.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v111 : BitVec 32 := Scalar.addi v2 c4_i32
  let c32_i32_80 : BitVec 32 := 32#32
  let c0_i32_81 : BitVec 32 := 0#32
  let v112 : BitVec 1 := Scalar.cmpi .eq c32_i32_80 c0_i32_81
  let c1_i32_82 : BitVec 32 := 1#32
  let v113 : BitVec 32 := Scalar.select v112 c1_i32_82 c32_i32_80
  let v114 : BitVec 32 := Scalar.remsi v111 v113
  let c0_i32_84 : BitVec 32 := 0#32
  let v116 : BitVec 1 := Scalar.cmpi .slt v114 c0_i32_84
  let c0_i32_85 : BitVec 32 := 0#32
  let v117 : BitVec 1 := Scalar.cmpi .slt v113 c0_i32_85
  let v118 : BitVec 1 := Scalar.xori v116 v117
  let c0_i32_83 : BitVec 32 := 0#32
  let v115 : BitVec 1 := Scalar.cmpi .ne v114 c0_i32_83
  let v119 : BitVec 1 := Scalar.andi v118 v115
  let v120 : BitVec 32 := Scalar.addi v114 v113
  let v121 : BitVec 32 := Scalar.select v119 v120 v114
  let c1_i32_87 : BitVec 32 := 1#32
  let v122 : BitVec 32 := Scalar.muli v121 c1_i32_87
  let v123 : BitVec 32 := Scalar.addi c0_i32_88 v122
  v123.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v124 : BitVec 32 := Scalar.addi v2 c5_i32
  let c32_i32_89 : BitVec 32 := 32#32
  let c0_i32_90 : BitVec 32 := 0#32
  let v125 : BitVec 1 := Scalar.cmpi .eq c32_i32_89 c0_i32_90
  let c1_i32_91 : BitVec 32 := 1#32
  let v126 : BitVec 32 := Scalar.select v125 c1_i32_91 c32_i32_89
  let v127 : BitVec 32 := Scalar.remsi v124 v126
  let c0_i32_93 : BitVec 32 := 0#32
  let v129 : BitVec 1 := Scalar.cmpi .slt v127 c0_i32_93
  let c0_i32_94 : BitVec 32 := 0#32
  let v130 : BitVec 1 := Scalar.cmpi .slt v126 c0_i32_94
  let v131 : BitVec 1 := Scalar.xori v129 v130
  let c0_i32_92 : BitVec 32 := 0#32
  let v128 : BitVec 1 := Scalar.cmpi .ne v127 c0_i32_92
  let v132 : BitVec 1 := Scalar.andi v131 v128
  let v133 : BitVec 32 := Scalar.addi v127 v126
  let v134 : BitVec 32 := Scalar.select v132 v133 v127
  let c1_i32_96 : BitVec 32 := 1#32
  let v135 : BitVec 32 := Scalar.muli v134 c1_i32_96
  let v136 : BitVec 32 := Scalar.addi c0_i32_97 v135
  v136.toNat
def k0_dev6 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v137 : BitVec 32 := Scalar.addi v2 c6_i32
  let c32_i32_98 : BitVec 32 := 32#32
  let c0_i32_99 : BitVec 32 := 0#32
  let v138 : BitVec 1 := Scalar.cmpi .eq c32_i32_98 c0_i32_99
  let c1_i32_100 : BitVec 32 := 1#32
  let v139 : BitVec 32 := Scalar.select v138 c1_i32_100 c32_i32_98
  let v140 : BitVec 32 := Scalar.remsi v137 v139
  let c0_i32_102 : BitVec 32 := 0#32
  let v142 : BitVec 1 := Scalar.cmpi .slt v140 c0_i32_102
  let c0_i32_103 : BitVec 32 := 0#32
  let v143 : BitVec 1 := Scalar.cmpi .slt v139 c0_i32_103
  let v144 : BitVec 1 := Scalar.xori v142 v143
  let c0_i32_101 : BitVec 32 := 0#32
  let v141 : BitVec 1 := Scalar.cmpi .ne v140 c0_i32_101
  let v145 : BitVec 1 := Scalar.andi v144 v141
  let v146 : BitVec 32 := Scalar.addi v140 v139
  let v147 : BitVec 32 := Scalar.select v145 v146 v140
  let c1_i32_105 : BitVec 32 := 1#32
  let v148 : BitVec 32 := Scalar.muli v147 c1_i32_105
  let v149 : BitVec 32 := Scalar.addi c0_i32_106 v148
  v149.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v150 : BitVec 32 := Scalar.addi v2 c7_i32
  let c32_i32_107 : BitVec 32 := 32#32
  let c0_i32_108 : BitVec 32 := 0#32
  let v151 : BitVec 1 := Scalar.cmpi .eq c32_i32_107 c0_i32_108
  let c1_i32_109 : BitVec 32 := 1#32
  let v152 : BitVec 32 := Scalar.select v151 c1_i32_109 c32_i32_107
  let v153 : BitVec 32 := Scalar.remsi v150 v152
  let c0_i32_111 : BitVec 32 := 0#32
  let v155 : BitVec 1 := Scalar.cmpi .slt v153 c0_i32_111
  let c0_i32_112 : BitVec 32 := 0#32
  let v156 : BitVec 1 := Scalar.cmpi .slt v152 c0_i32_112
  let v157 : BitVec 1 := Scalar.xori v155 v156
  let c0_i32_110 : BitVec 32 := 0#32
  let v154 : BitVec 1 := Scalar.cmpi .ne v153 c0_i32_110
  let v158 : BitVec 1 := Scalar.andi v157 v154
  let v159 : BitVec 32 := Scalar.addi v153 v152
  let v160 : BitVec 32 := Scalar.select v158 v159 v153
  let c1_i32_114 : BitVec 32 := 1#32
  let v161 : BitVec 32 := Scalar.muli v160 c1_i32_114
  let v162 : BitVec 32 := Scalar.addi c0_i32_115 v161
  v162.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v163 : BitVec 32 := Scalar.addi v2 c8_i32
  let c32_i32_116 : BitVec 32 := 32#32
  let c0_i32_117 : BitVec 32 := 0#32
  let v164 : BitVec 1 := Scalar.cmpi .eq c32_i32_116 c0_i32_117
  let c1_i32_118 : BitVec 32 := 1#32
  let v165 : BitVec 32 := Scalar.select v164 c1_i32_118 c32_i32_116
  let v166 : BitVec 32 := Scalar.remsi v163 v165
  let c0_i32_120 : BitVec 32 := 0#32
  let v168 : BitVec 1 := Scalar.cmpi .slt v166 c0_i32_120
  let c0_i32_121 : BitVec 32 := 0#32
  let v169 : BitVec 1 := Scalar.cmpi .slt v165 c0_i32_121
  let v170 : BitVec 1 := Scalar.xori v168 v169
  let c0_i32_119 : BitVec 32 := 0#32
  let v167 : BitVec 1 := Scalar.cmpi .ne v166 c0_i32_119
  let v171 : BitVec 1 := Scalar.andi v170 v167
  let v172 : BitVec 32 := Scalar.addi v166 v165
  let v173 : BitVec 32 := Scalar.select v171 v172 v166
  let c1_i32_123 : BitVec 32 := 1#32
  let v174 : BitVec 32 := Scalar.muli v173 c1_i32_123
  let v175 : BitVec 32 := Scalar.addi c0_i32_124 v174
  v175.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v176 : BitVec 32 := Scalar.addi v2 c9_i32
  let c32_i32_125 : BitVec 32 := 32#32
  let c0_i32_126 : BitVec 32 := 0#32
  let v177 : BitVec 1 := Scalar.cmpi .eq c32_i32_125 c0_i32_126
  let c1_i32_127 : BitVec 32 := 1#32
  let v178 : BitVec 32 := Scalar.select v177 c1_i32_127 c32_i32_125
  let v179 : BitVec 32 := Scalar.remsi v176 v178
  let c0_i32_129 : BitVec 32 := 0#32
  let v181 : BitVec 1 := Scalar.cmpi .slt v179 c0_i32_129
  let c0_i32_130 : BitVec 32 := 0#32
  let v182 : BitVec 1 := Scalar.cmpi .slt v178 c0_i32_130
  let v183 : BitVec 1 := Scalar.xori v181 v182
  let c0_i32_128 : BitVec 32 := 0#32
  let v180 : BitVec 1 := Scalar.cmpi .ne v179 c0_i32_128
  let v184 : BitVec 1 := Scalar.andi v183 v180
  let v185 : BitVec 32 := Scalar.addi v179 v178
  let v186 : BitVec 32 := Scalar.select v184 v185 v179
  let c1_i32_132 : BitVec 32 := 1#32
  let v187 : BitVec 32 := Scalar.muli v186 c1_i32_132
  let v188 : BitVec 32 := Scalar.addi c0_i32_133 v187
  v188.toNat
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v189 : BitVec 32 := Scalar.addi v2 c10_i32
  let c32_i32_134 : BitVec 32 := 32#32
  let c0_i32_135 : BitVec 32 := 0#32
  let v190 : BitVec 1 := Scalar.cmpi .eq c32_i32_134 c0_i32_135
  let c1_i32_136 : BitVec 32 := 1#32
  let v191 : BitVec 32 := Scalar.select v190 c1_i32_136 c32_i32_134
  let v192 : BitVec 32 := Scalar.remsi v189 v191
  let c0_i32_138 : BitVec 32 := 0#32
  let v194 : BitVec 1 := Scalar.cmpi .slt v192 c0_i32_138
  let c0_i32_139 : BitVec 32 := 0#32
  let v195 : BitVec 1 := Scalar.cmpi .slt v191 c0_i32_139
  let v196 : BitVec 1 := Scalar.xori v194 v195
  let c0_i32_137 : BitVec 32 := 0#32
  let v193 : BitVec 1 := Scalar.cmpi .ne v192 c0_i32_137
  let v197 : BitVec 1 := Scalar.andi v196 v193
  let v198 : BitVec 32 := Scalar.addi v192 v191
  let v199 : BitVec 32 := Scalar.select v197 v198 v192
  let c1_i32_141 : BitVec 32 := 1#32
  let v200 : BitVec 32 := Scalar.muli v199 c1_i32_141
  let v201 : BitVec 32 := Scalar.addi c0_i32_142 v200
  v201.toNat
def k0_dev11 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v202 : BitVec 32 := Scalar.addi v2 c11_i32
  let c32_i32_143 : BitVec 32 := 32#32
  let c0_i32_144 : BitVec 32 := 0#32
  let v203 : BitVec 1 := Scalar.cmpi .eq c32_i32_143 c0_i32_144
  let c1_i32_145 : BitVec 32 := 1#32
  let v204 : BitVec 32 := Scalar.select v203 c1_i32_145 c32_i32_143
  let v205 : BitVec 32 := Scalar.remsi v202 v204
  let c0_i32_147 : BitVec 32 := 0#32
  let v207 : BitVec 1 := Scalar.cmpi .slt v205 c0_i32_147
  let c0_i32_148 : BitVec 32 := 0#32
  let v208 : BitVec 1 := Scalar.cmpi .slt v204 c0_i32_148
  let v209 : BitVec 1 := Scalar.xori v207 v208
  let c0_i32_146 : BitVec 32 := 0#32
  let v206 : BitVec 1 := Scalar.cmpi .ne v205 c0_i32_146
  let v210 : BitVec 1 := Scalar.andi v209 v206
  let v211 : BitVec 32 := Scalar.addi v205 v204
  let v212 : BitVec 32 := Scalar.select v210 v211 v205
  let c1_i32_150 : BitVec 32 := 1#32
  let v213 : BitVec 32 := Scalar.muli v212 c1_i32_150
  let v214 : BitVec 32 := Scalar.addi c0_i32_151 v213
  v214.toNat
def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v215 : BitVec 32 := Scalar.addi v2 c12_i32
  let c32_i32_152 : BitVec 32 := 32#32
  let c0_i32_153 : BitVec 32 := 0#32
  let v216 : BitVec 1 := Scalar.cmpi .eq c32_i32_152 c0_i32_153
  let c1_i32_154 : BitVec 32 := 1#32
  let v217 : BitVec 32 := Scalar.select v216 c1_i32_154 c32_i32_152
  let v218 : BitVec 32 := Scalar.remsi v215 v217
  let c0_i32_156 : BitVec 32 := 0#32
  let v220 : BitVec 1 := Scalar.cmpi .slt v218 c0_i32_156
  let c0_i32_157 : BitVec 32 := 0#32
  let v221 : BitVec 1 := Scalar.cmpi .slt v217 c0_i32_157
  let v222 : BitVec 1 := Scalar.xori v220 v221
  let c0_i32_155 : BitVec 32 := 0#32
  let v219 : BitVec 1 := Scalar.cmpi .ne v218 c0_i32_155
  let v223 : BitVec 1 := Scalar.andi v222 v219
  let v224 : BitVec 32 := Scalar.addi v218 v217
  let v225 : BitVec 32 := Scalar.select v223 v224 v218
  let c1_i32_159 : BitVec 32 := 1#32
  let v226 : BitVec 32 := Scalar.muli v225 c1_i32_159
  let v227 : BitVec 32 := Scalar.addi c0_i32_160 v226
  v227.toNat
def k0_dev13 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v228 : BitVec 32 := Scalar.addi v2 c13_i32
  let c32_i32_161 : BitVec 32 := 32#32
  let c0_i32_162 : BitVec 32 := 0#32
  let v229 : BitVec 1 := Scalar.cmpi .eq c32_i32_161 c0_i32_162
  let c1_i32_163 : BitVec 32 := 1#32
  let v230 : BitVec 32 := Scalar.select v229 c1_i32_163 c32_i32_161
  let v231 : BitVec 32 := Scalar.remsi v228 v230
  let c0_i32_165 : BitVec 32 := 0#32
  let v233 : BitVec 1 := Scalar.cmpi .slt v231 c0_i32_165
  let c0_i32_166 : BitVec 32 := 0#32
  let v234 : BitVec 1 := Scalar.cmpi .slt v230 c0_i32_166
  let v235 : BitVec 1 := Scalar.xori v233 v234
  let c0_i32_164 : BitVec 32 := 0#32
  let v232 : BitVec 1 := Scalar.cmpi .ne v231 c0_i32_164
  let v236 : BitVec 1 := Scalar.andi v235 v232
  let v237 : BitVec 32 := Scalar.addi v231 v230
  let v238 : BitVec 32 := Scalar.select v236 v237 v231
  let c1_i32_168 : BitVec 32 := 1#32
  let v239 : BitVec 32 := Scalar.muli v238 c1_i32_168
  let v240 : BitVec 32 := Scalar.addi c0_i32_169 v239
  v240.toNat
def k0_dev14 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v241 : BitVec 32 := Scalar.addi v2 c14_i32
  let c32_i32_170 : BitVec 32 := 32#32
  let c0_i32_171 : BitVec 32 := 0#32
  let v242 : BitVec 1 := Scalar.cmpi .eq c32_i32_170 c0_i32_171
  let c1_i32_172 : BitVec 32 := 1#32
  let v243 : BitVec 32 := Scalar.select v242 c1_i32_172 c32_i32_170
  let v244 : BitVec 32 := Scalar.remsi v241 v243
  let c0_i32_174 : BitVec 32 := 0#32
  let v246 : BitVec 1 := Scalar.cmpi .slt v244 c0_i32_174
  let c0_i32_175 : BitVec 32 := 0#32
  let v247 : BitVec 1 := Scalar.cmpi .slt v243 c0_i32_175
  let v248 : BitVec 1 := Scalar.xori v246 v247
  let c0_i32_173 : BitVec 32 := 0#32
  let v245 : BitVec 1 := Scalar.cmpi .ne v244 c0_i32_173
  let v249 : BitVec 1 := Scalar.andi v248 v245
  let v250 : BitVec 32 := Scalar.addi v244 v243
  let v251 : BitVec 32 := Scalar.select v249 v250 v244
  let c1_i32_177 : BitVec 32 := 1#32
  let v252 : BitVec 32 := Scalar.muli v251 c1_i32_177
  let v253 : BitVec 32 := Scalar.addi c0_i32_178 v252
  v253.toNat
def k0_dev15 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v254 : BitVec 32 := Scalar.addi v2 c15_i32
  let c32_i32_179 : BitVec 32 := 32#32
  let c0_i32_180 : BitVec 32 := 0#32
  let v255 : BitVec 1 := Scalar.cmpi .eq c32_i32_179 c0_i32_180
  let c1_i32_181 : BitVec 32 := 1#32
  let v256 : BitVec 32 := Scalar.select v255 c1_i32_181 c32_i32_179
  let v257 : BitVec 32 := Scalar.remsi v254 v256
  let c0_i32_183 : BitVec 32 := 0#32
  let v259 : BitVec 1 := Scalar.cmpi .slt v257 c0_i32_183
  let c0_i32_184 : BitVec 32 := 0#32
  let v260 : BitVec 1 := Scalar.cmpi .slt v256 c0_i32_184
  let v261 : BitVec 1 := Scalar.xori v259 v260
  let c0_i32_182 : BitVec 32 := 0#32
  let v258 : BitVec 1 := Scalar.cmpi .ne v257 c0_i32_182
  let v262 : BitVec 1 := Scalar.andi v261 v258
  let v263 : BitVec 32 := Scalar.addi v257 v256
  let v264 : BitVec 32 := Scalar.select v262 v263 v257
  let c1_i32_186 : BitVec 32 := 1#32
  let v265 : BitVec 32 := Scalar.muli v264 c1_i32_186
  let v266 : BitVec 32 := Scalar.addi c0_i32_187 v265
  v266.toNat
def k0_dev16 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v267 : BitVec 32 := Scalar.addi v2 c16_i32
  let c32_i32_188 : BitVec 32 := 32#32
  let c0_i32_189 : BitVec 32 := 0#32
  let v268 : BitVec 1 := Scalar.cmpi .eq c32_i32_188 c0_i32_189
  let c1_i32_190 : BitVec 32 := 1#32
  let v269 : BitVec 32 := Scalar.select v268 c1_i32_190 c32_i32_188
  let v270 : BitVec 32 := Scalar.remsi v267 v269
  let c0_i32_192 : BitVec 32 := 0#32
  let v272 : BitVec 1 := Scalar.cmpi .slt v270 c0_i32_192
  let c0_i32_193 : BitVec 32 := 0#32
  let v273 : BitVec 1 := Scalar.cmpi .slt v269 c0_i32_193
  let v274 : BitVec 1 := Scalar.xori v272 v273
  let c0_i32_191 : BitVec 32 := 0#32
  let v271 : BitVec 1 := Scalar.cmpi .ne v270 c0_i32_191
  let v275 : BitVec 1 := Scalar.andi v274 v271
  let v276 : BitVec 32 := Scalar.addi v270 v269
  let v277 : BitVec 32 := Scalar.select v275 v276 v270
  let c1_i32_195 : BitVec 32 := 1#32
  let v278 : BitVec 32 := Scalar.muli v277 c1_i32_195
  let v279 : BitVec 32 := Scalar.addi c0_i32_196 v278
  v279.toNat
def k0_dev17 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v280 : BitVec 32 := Scalar.addi v2 c17_i32
  let c32_i32_197 : BitVec 32 := 32#32
  let c0_i32_198 : BitVec 32 := 0#32
  let v281 : BitVec 1 := Scalar.cmpi .eq c32_i32_197 c0_i32_198
  let c1_i32_199 : BitVec 32 := 1#32
  let v282 : BitVec 32 := Scalar.select v281 c1_i32_199 c32_i32_197
  let v283 : BitVec 32 := Scalar.remsi v280 v282
  let c0_i32_201 : BitVec 32 := 0#32
  let v285 : BitVec 1 := Scalar.cmpi .slt v283 c0_i32_201
  let c0_i32_202 : BitVec 32 := 0#32
  let v286 : BitVec 1 := Scalar.cmpi .slt v282 c0_i32_202
  let v287 : BitVec 1 := Scalar.xori v285 v286
  let c0_i32_200 : BitVec 32 := 0#32
  let v284 : BitVec 1 := Scalar.cmpi .ne v283 c0_i32_200
  let v288 : BitVec 1 := Scalar.andi v287 v284
  let v289 : BitVec 32 := Scalar.addi v283 v282
  let v290 : BitVec 32 := Scalar.select v288 v289 v283
  let c1_i32_204 : BitVec 32 := 1#32
  let v291 : BitVec 32 := Scalar.muli v290 c1_i32_204
  let v292 : BitVec 32 := Scalar.addi c0_i32_205 v291
  v292.toNat
def k0_dev18 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v293 : BitVec 32 := Scalar.addi v2 c18_i32
  let c32_i32_206 : BitVec 32 := 32#32
  let c0_i32_207 : BitVec 32 := 0#32
  let v294 : BitVec 1 := Scalar.cmpi .eq c32_i32_206 c0_i32_207
  let c1_i32_208 : BitVec 32 := 1#32
  let v295 : BitVec 32 := Scalar.select v294 c1_i32_208 c32_i32_206
  let v296 : BitVec 32 := Scalar.remsi v293 v295
  let c0_i32_210 : BitVec 32 := 0#32
  let v298 : BitVec 1 := Scalar.cmpi .slt v296 c0_i32_210
  let c0_i32_211 : BitVec 32 := 0#32
  let v299 : BitVec 1 := Scalar.cmpi .slt v295 c0_i32_211
  let v300 : BitVec 1 := Scalar.xori v298 v299
  let c0_i32_209 : BitVec 32 := 0#32
  let v297 : BitVec 1 := Scalar.cmpi .ne v296 c0_i32_209
  let v301 : BitVec 1 := Scalar.andi v300 v297
  let v302 : BitVec 32 := Scalar.addi v296 v295
  let v303 : BitVec 32 := Scalar.select v301 v302 v296
  let c1_i32_213 : BitVec 32 := 1#32
  let v304 : BitVec 32 := Scalar.muli v303 c1_i32_213
  let v305 : BitVec 32 := Scalar.addi c0_i32_214 v304
  v305.toNat
def k0_dev19 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v306 : BitVec 32 := Scalar.addi v2 c19_i32
  let c32_i32_215 : BitVec 32 := 32#32
  let c0_i32_216 : BitVec 32 := 0#32
  let v307 : BitVec 1 := Scalar.cmpi .eq c32_i32_215 c0_i32_216
  let c1_i32_217 : BitVec 32 := 1#32
  let v308 : BitVec 32 := Scalar.select v307 c1_i32_217 c32_i32_215
  let v309 : BitVec 32 := Scalar.remsi v306 v308
  let c0_i32_219 : BitVec 32 := 0#32
  let v311 : BitVec 1 := Scalar.cmpi .slt v309 c0_i32_219
  let c0_i32_220 : BitVec 32 := 0#32
  let v312 : BitVec 1 := Scalar.cmpi .slt v308 c0_i32_220
  let v313 : BitVec 1 := Scalar.xori v311 v312
  let c0_i32_218 : BitVec 32 := 0#32
  let v310 : BitVec 1 := Scalar.cmpi .ne v309 c0_i32_218
  let v314 : BitVec 1 := Scalar.andi v313 v310
  let v315 : BitVec 32 := Scalar.addi v309 v308
  let v316 : BitVec 32 := Scalar.select v314 v315 v309
  let c1_i32_222 : BitVec 32 := 1#32
  let v317 : BitVec 32 := Scalar.muli v316 c1_i32_222
  let v318 : BitVec 32 := Scalar.addi c0_i32_223 v317
  v318.toNat
def k0_dev20 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v319 : BitVec 32 := Scalar.addi v2 c20_i32
  let c32_i32_224 : BitVec 32 := 32#32
  let c0_i32_225 : BitVec 32 := 0#32
  let v320 : BitVec 1 := Scalar.cmpi .eq c32_i32_224 c0_i32_225
  let c1_i32_226 : BitVec 32 := 1#32
  let v321 : BitVec 32 := Scalar.select v320 c1_i32_226 c32_i32_224
  let v322 : BitVec 32 := Scalar.remsi v319 v321
  let c0_i32_228 : BitVec 32 := 0#32
  let v324 : BitVec 1 := Scalar.cmpi .slt v322 c0_i32_228
  let c0_i32_229 : BitVec 32 := 0#32
  let v325 : BitVec 1 := Scalar.cmpi .slt v321 c0_i32_229
  let v326 : BitVec 1 := Scalar.xori v324 v325
  let c0_i32_227 : BitVec 32 := 0#32
  let v323 : BitVec 1 := Scalar.cmpi .ne v322 c0_i32_227
  let v327 : BitVec 1 := Scalar.andi v326 v323
  let v328 : BitVec 32 := Scalar.addi v322 v321
  let v329 : BitVec 32 := Scalar.select v327 v328 v322
  let c1_i32_231 : BitVec 32 := 1#32
  let v330 : BitVec 32 := Scalar.muli v329 c1_i32_231
  let v331 : BitVec 32 := Scalar.addi c0_i32_232 v330
  v331.toNat
def k0_dev21 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v332 : BitVec 32 := Scalar.addi v2 c21_i32
  let c32_i32_233 : BitVec 32 := 32#32
  let c0_i32_234 : BitVec 32 := 0#32
  let v333 : BitVec 1 := Scalar.cmpi .eq c32_i32_233 c0_i32_234
  let c1_i32_235 : BitVec 32 := 1#32
  let v334 : BitVec 32 := Scalar.select v333 c1_i32_235 c32_i32_233
  let v335 : BitVec 32 := Scalar.remsi v332 v334
  let c0_i32_237 : BitVec 32 := 0#32
  let v337 : BitVec 1 := Scalar.cmpi .slt v335 c0_i32_237
  let c0_i32_238 : BitVec 32 := 0#32
  let v338 : BitVec 1 := Scalar.cmpi .slt v334 c0_i32_238
  let v339 : BitVec 1 := Scalar.xori v337 v338
  let c0_i32_236 : BitVec 32 := 0#32
  let v336 : BitVec 1 := Scalar.cmpi .ne v335 c0_i32_236
  let v340 : BitVec 1 := Scalar.andi v339 v336
  let v341 : BitVec 32 := Scalar.addi v335 v334
  let v342 : BitVec 32 := Scalar.select v340 v341 v335
  let c1_i32_240 : BitVec 32 := 1#32
  let v343 : BitVec 32 := Scalar.muli v342 c1_i32_240
  let v344 : BitVec 32 := Scalar.addi c0_i32_241 v343
  v344.toNat
def k0_dev22 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v345 : BitVec 32 := Scalar.addi v2 c22_i32
  let c32_i32_242 : BitVec 32 := 32#32
  let c0_i32_243 : BitVec 32 := 0#32
  let v346 : BitVec 1 := Scalar.cmpi .eq c32_i32_242 c0_i32_243
  let c1_i32_244 : BitVec 32 := 1#32
  let v347 : BitVec 32 := Scalar.select v346 c1_i32_244 c32_i32_242
  let v348 : BitVec 32 := Scalar.remsi v345 v347
  let c0_i32_246 : BitVec 32 := 0#32
  let v350 : BitVec 1 := Scalar.cmpi .slt v348 c0_i32_246
  let c0_i32_247 : BitVec 32 := 0#32
  let v351 : BitVec 1 := Scalar.cmpi .slt v347 c0_i32_247
  let v352 : BitVec 1 := Scalar.xori v350 v351
  let c0_i32_245 : BitVec 32 := 0#32
  let v349 : BitVec 1 := Scalar.cmpi .ne v348 c0_i32_245
  let v353 : BitVec 1 := Scalar.andi v352 v349
  let v354 : BitVec 32 := Scalar.addi v348 v347
  let v355 : BitVec 32 := Scalar.select v353 v354 v348
  let c1_i32_249 : BitVec 32 := 1#32
  let v356 : BitVec 32 := Scalar.muli v355 c1_i32_249
  let v357 : BitVec 32 := Scalar.addi c0_i32_250 v356
  v357.toNat
def k0_dev23 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v358 : BitVec 32 := Scalar.addi v2 c23_i32
  let c32_i32_251 : BitVec 32 := 32#32
  let c0_i32_252 : BitVec 32 := 0#32
  let v359 : BitVec 1 := Scalar.cmpi .eq c32_i32_251 c0_i32_252
  let c1_i32_253 : BitVec 32 := 1#32
  let v360 : BitVec 32 := Scalar.select v359 c1_i32_253 c32_i32_251
  let v361 : BitVec 32 := Scalar.remsi v358 v360
  let c0_i32_255 : BitVec 32 := 0#32
  let v363 : BitVec 1 := Scalar.cmpi .slt v361 c0_i32_255
  let c0_i32_256 : BitVec 32 := 0#32
  let v364 : BitVec 1 := Scalar.cmpi .slt v360 c0_i32_256
  let v365 : BitVec 1 := Scalar.xori v363 v364
  let c0_i32_254 : BitVec 32 := 0#32
  let v362 : BitVec 1 := Scalar.cmpi .ne v361 c0_i32_254
  let v366 : BitVec 1 := Scalar.andi v365 v362
  let v367 : BitVec 32 := Scalar.addi v361 v360
  let v368 : BitVec 32 := Scalar.select v366 v367 v361
  let c1_i32_258 : BitVec 32 := 1#32
  let v369 : BitVec 32 := Scalar.muli v368 c1_i32_258
  let v370 : BitVec 32 := Scalar.addi c0_i32_259 v369
  v370.toNat
def k0_dev24 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v371 : BitVec 32 := Scalar.addi v2 c24_i32
  let c32_i32_260 : BitVec 32 := 32#32
  let c0_i32_261 : BitVec 32 := 0#32
  let v372 : BitVec 1 := Scalar.cmpi .eq c32_i32_260 c0_i32_261
  let c1_i32_262 : BitVec 32 := 1#32
  let v373 : BitVec 32 := Scalar.select v372 c1_i32_262 c32_i32_260
  let v374 : BitVec 32 := Scalar.remsi v371 v373
  let c0_i32_264 : BitVec 32 := 0#32
  let v376 : BitVec 1 := Scalar.cmpi .slt v374 c0_i32_264
  let c0_i32_265 : BitVec 32 := 0#32
  let v377 : BitVec 1 := Scalar.cmpi .slt v373 c0_i32_265
  let v378 : BitVec 1 := Scalar.xori v376 v377
  let c0_i32_263 : BitVec 32 := 0#32
  let v375 : BitVec 1 := Scalar.cmpi .ne v374 c0_i32_263
  let v379 : BitVec 1 := Scalar.andi v378 v375
  let v380 : BitVec 32 := Scalar.addi v374 v373
  let v381 : BitVec 32 := Scalar.select v379 v380 v374
  let c1_i32_267 : BitVec 32 := 1#32
  let v382 : BitVec 32 := Scalar.muli v381 c1_i32_267
  let v383 : BitVec 32 := Scalar.addi c0_i32_268 v382
  v383.toNat
def k0_dev25 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v384 : BitVec 32 := Scalar.addi v2 c25_i32
  let c32_i32_269 : BitVec 32 := 32#32
  let c0_i32_270 : BitVec 32 := 0#32
  let v385 : BitVec 1 := Scalar.cmpi .eq c32_i32_269 c0_i32_270
  let c1_i32_271 : BitVec 32 := 1#32
  let v386 : BitVec 32 := Scalar.select v385 c1_i32_271 c32_i32_269
  let v387 : BitVec 32 := Scalar.remsi v384 v386
  let c0_i32_273 : BitVec 32 := 0#32
  let v389 : BitVec 1 := Scalar.cmpi .slt v387 c0_i32_273
  let c0_i32_274 : BitVec 32 := 0#32
  let v390 : BitVec 1 := Scalar.cmpi .slt v386 c0_i32_274
  let v391 : BitVec 1 := Scalar.xori v389 v390
  let c0_i32_272 : BitVec 32 := 0#32
  let v388 : BitVec 1 := Scalar.cmpi .ne v387 c0_i32_272
  let v392 : BitVec 1 := Scalar.andi v391 v388
  let v393 : BitVec 32 := Scalar.addi v387 v386
  let v394 : BitVec 32 := Scalar.select v392 v393 v387
  let c1_i32_276 : BitVec 32 := 1#32
  let v395 : BitVec 32 := Scalar.muli v394 c1_i32_276
  let v396 : BitVec 32 := Scalar.addi c0_i32_277 v395
  v396.toNat
def k0_dev26 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v397 : BitVec 32 := Scalar.addi v2 c26_i32
  let c32_i32_278 : BitVec 32 := 32#32
  let c0_i32_279 : BitVec 32 := 0#32
  let v398 : BitVec 1 := Scalar.cmpi .eq c32_i32_278 c0_i32_279
  let c1_i32_280 : BitVec 32 := 1#32
  let v399 : BitVec 32 := Scalar.select v398 c1_i32_280 c32_i32_278
  let v400 : BitVec 32 := Scalar.remsi v397 v399
  let c0_i32_282 : BitVec 32 := 0#32
  let v402 : BitVec 1 := Scalar.cmpi .slt v400 c0_i32_282
  let c0_i32_283 : BitVec 32 := 0#32
  let v403 : BitVec 1 := Scalar.cmpi .slt v399 c0_i32_283
  let v404 : BitVec 1 := Scalar.xori v402 v403
  let c0_i32_281 : BitVec 32 := 0#32
  let v401 : BitVec 1 := Scalar.cmpi .ne v400 c0_i32_281
  let v405 : BitVec 1 := Scalar.andi v404 v401
  let v406 : BitVec 32 := Scalar.addi v400 v399
  let v407 : BitVec 32 := Scalar.select v405 v406 v400
  let c1_i32_285 : BitVec 32 := 1#32
  let v408 : BitVec 32 := Scalar.muli v407 c1_i32_285
  let v409 : BitVec 32 := Scalar.addi c0_i32_286 v408
  v409.toNat
def k0_dev27 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v410 : BitVec 32 := Scalar.addi v2 c27_i32
  let c32_i32_287 : BitVec 32 := 32#32
  let c0_i32_288 : BitVec 32 := 0#32
  let v411 : BitVec 1 := Scalar.cmpi .eq c32_i32_287 c0_i32_288
  let c1_i32_289 : BitVec 32 := 1#32
  let v412 : BitVec 32 := Scalar.select v411 c1_i32_289 c32_i32_287
  let v413 : BitVec 32 := Scalar.remsi v410 v412
  let c0_i32_291 : BitVec 32 := 0#32
  let v415 : BitVec 1 := Scalar.cmpi .slt v413 c0_i32_291
  let c0_i32_292 : BitVec 32 := 0#32
  let v416 : BitVec 1 := Scalar.cmpi .slt v412 c0_i32_292
  let v417 : BitVec 1 := Scalar.xori v415 v416
  let c0_i32_290 : BitVec 32 := 0#32
  let v414 : BitVec 1 := Scalar.cmpi .ne v413 c0_i32_290
  let v418 : BitVec 1 := Scalar.andi v417 v414
  let v419 : BitVec 32 := Scalar.addi v413 v412
  let v420 : BitVec 32 := Scalar.select v418 v419 v413
  let c1_i32_294 : BitVec 32 := 1#32
  let v421 : BitVec 32 := Scalar.muli v420 c1_i32_294
  let v422 : BitVec 32 := Scalar.addi c0_i32_295 v421
  v422.toNat
def k0_dev28 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v423 : BitVec 32 := Scalar.addi v2 c28_i32
  let c32_i32_296 : BitVec 32 := 32#32
  let c0_i32_297 : BitVec 32 := 0#32
  let v424 : BitVec 1 := Scalar.cmpi .eq c32_i32_296 c0_i32_297
  let c1_i32_298 : BitVec 32 := 1#32
  let v425 : BitVec 32 := Scalar.select v424 c1_i32_298 c32_i32_296
  let v426 : BitVec 32 := Scalar.remsi v423 v425
  let c0_i32_300 : BitVec 32 := 0#32
  let v428 : BitVec 1 := Scalar.cmpi .slt v426 c0_i32_300
  let c0_i32_301 : BitVec 32 := 0#32
  let v429 : BitVec 1 := Scalar.cmpi .slt v425 c0_i32_301
  let v430 : BitVec 1 := Scalar.xori v428 v429
  let c0_i32_299 : BitVec 32 := 0#32
  let v427 : BitVec 1 := Scalar.cmpi .ne v426 c0_i32_299
  let v431 : BitVec 1 := Scalar.andi v430 v427
  let v432 : BitVec 32 := Scalar.addi v426 v425
  let v433 : BitVec 32 := Scalar.select v431 v432 v426
  let c1_i32_303 : BitVec 32 := 1#32
  let v434 : BitVec 32 := Scalar.muli v433 c1_i32_303
  let v435 : BitVec 32 := Scalar.addi c0_i32_304 v434
  v435.toNat
def k0_dev29 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v436 : BitVec 32 := Scalar.addi v2 c29_i32
  let c32_i32_305 : BitVec 32 := 32#32
  let c0_i32_306 : BitVec 32 := 0#32
  let v437 : BitVec 1 := Scalar.cmpi .eq c32_i32_305 c0_i32_306
  let c1_i32_307 : BitVec 32 := 1#32
  let v438 : BitVec 32 := Scalar.select v437 c1_i32_307 c32_i32_305
  let v439 : BitVec 32 := Scalar.remsi v436 v438
  let c0_i32_309 : BitVec 32 := 0#32
  let v441 : BitVec 1 := Scalar.cmpi .slt v439 c0_i32_309
  let c0_i32_310 : BitVec 32 := 0#32
  let v442 : BitVec 1 := Scalar.cmpi .slt v438 c0_i32_310
  let v443 : BitVec 1 := Scalar.xori v441 v442
  let c0_i32_308 : BitVec 32 := 0#32
  let v440 : BitVec 1 := Scalar.cmpi .ne v439 c0_i32_308
  let v444 : BitVec 1 := Scalar.andi v443 v440
  let v445 : BitVec 32 := Scalar.addi v439 v438
  let v446 : BitVec 32 := Scalar.select v444 v445 v439
  let c1_i32_312 : BitVec 32 := 1#32
  let v447 : BitVec 32 := Scalar.muli v446 c1_i32_312
  let v448 : BitVec 32 := Scalar.addi c0_i32_313 v447
  v448.toNat
def k0_dev30 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v449 : BitVec 32 := Scalar.addi v2 c30_i32
  let c32_i32_314 : BitVec 32 := 32#32
  let c0_i32_315 : BitVec 32 := 0#32
  let v450 : BitVec 1 := Scalar.cmpi .eq c32_i32_314 c0_i32_315
  let c1_i32_316 : BitVec 32 := 1#32
  let v451 : BitVec 32 := Scalar.select v450 c1_i32_316 c32_i32_314
  let v452 : BitVec 32 := Scalar.remsi v449 v451
  let c0_i32_318 : BitVec 32 := 0#32
  let v454 : BitVec 1 := Scalar.cmpi .slt v452 c0_i32_318
  let c0_i32_319 : BitVec 32 := 0#32
  let v455 : BitVec 1 := Scalar.cmpi .slt v451 c0_i32_319
  let v456 : BitVec 1 := Scalar.xori v454 v455
  let c0_i32_317 : BitVec 32 := 0#32
  let v453 : BitVec 1 := Scalar.cmpi .ne v452 c0_i32_317
  let v457 : BitVec 1 := Scalar.andi v456 v453
  let v458 : BitVec 32 := Scalar.addi v452 v451
  let v459 : BitVec 32 := Scalar.select v457 v458 v452
  let c1_i32_321 : BitVec 32 := 1#32
  let v460 : BitVec 32 := Scalar.muli v459 c1_i32_321
  let v461 : BitVec 32 := Scalar.addi c0_i32_322 v460
  v461.toNat
def k0_dev31 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v462 : BitVec 32 := Scalar.addi v2 c31_i32
  let c32_i32_323 : BitVec 32 := 32#32
  let c0_i32_324 : BitVec 32 := 0#32
  let v463 : BitVec 1 := Scalar.cmpi .eq c32_i32_323 c0_i32_324
  let c1_i32_325 : BitVec 32 := 1#32
  let v464 : BitVec 32 := Scalar.select v463 c1_i32_325 c32_i32_323
  let v465 : BitVec 32 := Scalar.remsi v462 v464
  let c0_i32_327 : BitVec 32 := 0#32
  let v467 : BitVec 1 := Scalar.cmpi .slt v465 c0_i32_327
  let c0_i32_328 : BitVec 32 := 0#32
  let v468 : BitVec 1 := Scalar.cmpi .slt v464 c0_i32_328
  let v469 : BitVec 1 := Scalar.xori v467 v468
  let c0_i32_326 : BitVec 32 := 0#32
  let v466 : BitVec 1 := Scalar.cmpi .ne v465 c0_i32_326
  let v470 : BitVec 1 := Scalar.andi v469 v466
  let v471 : BitVec 32 := Scalar.addi v465 v464
  let v472 : BitVec 32 := Scalar.select v470 v471 v465
  let c1_i32_330 : BitVec 32 := 1#32
  let v473 : BitVec 32 := Scalar.muli v472 c1_i32_330
  let v474 : BitVec 32 := Scalar.addi c0_i32_331 v473
  v474.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_341 : BitVec 32 := 256#32
  let v487 : BitVec 32 := Scalar.muli v2 c256_i32_341
  let c0_i32_346 : BitVec 32 := 0#32
  ![v487.toNat, 0]
def k0_off3 (d0 : Dev nD) (c1_i32_333 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v475 : BitVec 32 := Scalar.addi v2 c1_i32_333
  let c32_i32_334 : BitVec 32 := 32#32
  let c0_i32_335 : BitVec 32 := 0#32
  let v476 : BitVec 1 := Scalar.cmpi .eq c32_i32_334 c0_i32_335
  let c1_i32_336 : BitVec 32 := 1#32
  let v477 : BitVec 32 := Scalar.select v476 c1_i32_336 c32_i32_334
  let v478 : BitVec 32 := Scalar.remsi v475 v477
  let c0_i32_338 : BitVec 32 := 0#32
  let v480 : BitVec 1 := Scalar.cmpi .slt v478 c0_i32_338
  let c0_i32_339 : BitVec 32 := 0#32
  let v481 : BitVec 1 := Scalar.cmpi .slt v477 c0_i32_339
  let v482 : BitVec 1 := Scalar.xori v480 v481
  let c0_i32_337 : BitVec 32 := 0#32
  let v479 : BitVec 1 := Scalar.cmpi .ne v478 c0_i32_337
  let v483 : BitVec 1 := Scalar.andi v482 v479
  let v484 : BitVec 32 := Scalar.addi v478 v477
  let v485 : BitVec 32 := Scalar.select v483 v484 v478
  let c256_i32_340 : BitVec 32 := 256#32
  let v486 : BitVec 32 := Scalar.muli v485 c256_i32_340
  let c0_i32_347 : BitVec 32 := 0#32
  ![v486.toNat, 0]
def k0_dev32 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_333 : BitVec 32 := 1#32
  let v475 : BitVec 32 := Scalar.addi v2 c1_i32_333
  let c32_i32_334 : BitVec 32 := 32#32
  let c0_i32_335 : BitVec 32 := 0#32
  let v476 : BitVec 1 := Scalar.cmpi .eq c32_i32_334 c0_i32_335
  let c1_i32_336 : BitVec 32 := 1#32
  let v477 : BitVec 32 := Scalar.select v476 c1_i32_336 c32_i32_334
  let v478 : BitVec 32 := Scalar.remsi v475 v477
  let c0_i32_338 : BitVec 32 := 0#32
  let v480 : BitVec 1 := Scalar.cmpi .slt v478 c0_i32_338
  let c0_i32_339 : BitVec 32 := 0#32
  let v481 : BitVec 1 := Scalar.cmpi .slt v477 c0_i32_339
  let v482 : BitVec 1 := Scalar.xori v480 v481
  let c0_i32_337 : BitVec 32 := 0#32
  let v479 : BitVec 1 := Scalar.cmpi .ne v478 c0_i32_337
  let v483 : BitVec 1 := Scalar.andi v482 v479
  let v484 : BitVec 32 := Scalar.addi v478 v477
  let v485 : BitVec 32 := Scalar.select v483 v484 v478
  let c1_i32_344 : BitVec 32 := 1#32
  let v488 : BitVec 32 := Scalar.muli v485 c1_i32_344
  let v489 : BitVec 32 := Scalar.addi c0_i32_345 v488
  v489.toNat
def k0_dev33 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_348 : BitVec 32 := 2#32
  let v496 : BitVec 32 := Scalar.addi v2 c2_i32_348
  let c32_i32_349 : BitVec 32 := 32#32
  let c0_i32_350 : BitVec 32 := 0#32
  let v497 : BitVec 1 := Scalar.cmpi .eq c32_i32_349 c0_i32_350
  let c1_i32_351 : BitVec 32 := 1#32
  let v498 : BitVec 32 := Scalar.select v497 c1_i32_351 c32_i32_349
  let v499 : BitVec 32 := Scalar.remsi v496 v498
  let c0_i32_353 : BitVec 32 := 0#32
  let v501 : BitVec 1 := Scalar.cmpi .slt v499 c0_i32_353
  let c0_i32_354 : BitVec 32 := 0#32
  let v502 : BitVec 1 := Scalar.cmpi .slt v498 c0_i32_354
  let v503 : BitVec 1 := Scalar.xori v501 v502
  let c0_i32_352 : BitVec 32 := 0#32
  let v500 : BitVec 1 := Scalar.cmpi .ne v499 c0_i32_352
  let v504 : BitVec 1 := Scalar.andi v503 v500
  let v505 : BitVec 32 := Scalar.addi v499 v498
  let v506 : BitVec 32 := Scalar.select v504 v505 v499
  let c1_i32_359 : BitVec 32 := 1#32
  let v509 : BitVec 32 := Scalar.muli v506 c1_i32_359
  let v510 : BitVec 32 := Scalar.addi c0_i32_360 v509
  v510.toNat
def k0_dev34 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_363 : BitVec 32 := 3#32
  let v517 : BitVec 32 := Scalar.addi v2 c3_i32_363
  let c32_i32_364 : BitVec 32 := 32#32
  let c0_i32_365 : BitVec 32 := 0#32
  let v518 : BitVec 1 := Scalar.cmpi .eq c32_i32_364 c0_i32_365
  let c1_i32_366 : BitVec 32 := 1#32
  let v519 : BitVec 32 := Scalar.select v518 c1_i32_366 c32_i32_364
  let v520 : BitVec 32 := Scalar.remsi v517 v519
  let c0_i32_368 : BitVec 32 := 0#32
  let v522 : BitVec 1 := Scalar.cmpi .slt v520 c0_i32_368
  let c0_i32_369 : BitVec 32 := 0#32
  let v523 : BitVec 1 := Scalar.cmpi .slt v519 c0_i32_369
  let v524 : BitVec 1 := Scalar.xori v522 v523
  let c0_i32_367 : BitVec 32 := 0#32
  let v521 : BitVec 1 := Scalar.cmpi .ne v520 c0_i32_367
  let v525 : BitVec 1 := Scalar.andi v524 v521
  let v526 : BitVec 32 := Scalar.addi v520 v519
  let v527 : BitVec 32 := Scalar.select v525 v526 v520
  let c1_i32_374 : BitVec 32 := 1#32
  let v530 : BitVec 32 := Scalar.muli v527 c1_i32_374
  let v531 : BitVec 32 := Scalar.addi c0_i32_375 v530
  v531.toNat
def k0_dev35 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_378 : BitVec 32 := 4#32
  let v538 : BitVec 32 := Scalar.addi v2 c4_i32_378
  let c32_i32_379 : BitVec 32 := 32#32
  let c0_i32_380 : BitVec 32 := 0#32
  let v539 : BitVec 1 := Scalar.cmpi .eq c32_i32_379 c0_i32_380
  let c1_i32_381 : BitVec 32 := 1#32
  let v540 : BitVec 32 := Scalar.select v539 c1_i32_381 c32_i32_379
  let v541 : BitVec 32 := Scalar.remsi v538 v540
  let c0_i32_383 : BitVec 32 := 0#32
  let v543 : BitVec 1 := Scalar.cmpi .slt v541 c0_i32_383
  let c0_i32_384 : BitVec 32 := 0#32
  let v544 : BitVec 1 := Scalar.cmpi .slt v540 c0_i32_384
  let v545 : BitVec 1 := Scalar.xori v543 v544
  let c0_i32_382 : BitVec 32 := 0#32
  let v542 : BitVec 1 := Scalar.cmpi .ne v541 c0_i32_382
  let v546 : BitVec 1 := Scalar.andi v545 v542
  let v547 : BitVec 32 := Scalar.addi v541 v540
  let v548 : BitVec 32 := Scalar.select v546 v547 v541
  let c1_i32_389 : BitVec 32 := 1#32
  let v551 : BitVec 32 := Scalar.muli v548 c1_i32_389
  let v552 : BitVec 32 := Scalar.addi c0_i32_390 v551
  v552.toNat
def k0_dev36 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_393 : BitVec 32 := 5#32
  let v559 : BitVec 32 := Scalar.addi v2 c5_i32_393
  let c32_i32_394 : BitVec 32 := 32#32
  let c0_i32_395 : BitVec 32 := 0#32
  let v560 : BitVec 1 := Scalar.cmpi .eq c32_i32_394 c0_i32_395
  let c1_i32_396 : BitVec 32 := 1#32
  let v561 : BitVec 32 := Scalar.select v560 c1_i32_396 c32_i32_394
  let v562 : BitVec 32 := Scalar.remsi v559 v561
  let c0_i32_398 : BitVec 32 := 0#32
  let v564 : BitVec 1 := Scalar.cmpi .slt v562 c0_i32_398
  let c0_i32_399 : BitVec 32 := 0#32
  let v565 : BitVec 1 := Scalar.cmpi .slt v561 c0_i32_399
  let v566 : BitVec 1 := Scalar.xori v564 v565
  let c0_i32_397 : BitVec 32 := 0#32
  let v563 : BitVec 1 := Scalar.cmpi .ne v562 c0_i32_397
  let v567 : BitVec 1 := Scalar.andi v566 v563
  let v568 : BitVec 32 := Scalar.addi v562 v561
  let v569 : BitVec 32 := Scalar.select v567 v568 v562
  let c1_i32_404 : BitVec 32 := 1#32
  let v572 : BitVec 32 := Scalar.muli v569 c1_i32_404
  let v573 : BitVec 32 := Scalar.addi c0_i32_405 v572
  v573.toNat
def k0_dev37 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_408 : BitVec 32 := 6#32
  let v580 : BitVec 32 := Scalar.addi v2 c6_i32_408
  let c32_i32_409 : BitVec 32 := 32#32
  let c0_i32_410 : BitVec 32 := 0#32
  let v581 : BitVec 1 := Scalar.cmpi .eq c32_i32_409 c0_i32_410
  let c1_i32_411 : BitVec 32 := 1#32
  let v582 : BitVec 32 := Scalar.select v581 c1_i32_411 c32_i32_409
  let v583 : BitVec 32 := Scalar.remsi v580 v582
  let c0_i32_413 : BitVec 32 := 0#32
  let v585 : BitVec 1 := Scalar.cmpi .slt v583 c0_i32_413
  let c0_i32_414 : BitVec 32 := 0#32
  let v586 : BitVec 1 := Scalar.cmpi .slt v582 c0_i32_414
  let v587 : BitVec 1 := Scalar.xori v585 v586
  let c0_i32_412 : BitVec 32 := 0#32
  let v584 : BitVec 1 := Scalar.cmpi .ne v583 c0_i32_412
  let v588 : BitVec 1 := Scalar.andi v587 v584
  let v589 : BitVec 32 := Scalar.addi v583 v582
  let v590 : BitVec 32 := Scalar.select v588 v589 v583
  let c1_i32_419 : BitVec 32 := 1#32
  let v593 : BitVec 32 := Scalar.muli v590 c1_i32_419
  let v594 : BitVec 32 := Scalar.addi c0_i32_420 v593
  v594.toNat
def k0_dev38 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_423 : BitVec 32 := 7#32
  let v601 : BitVec 32 := Scalar.addi v2 c7_i32_423
  let c32_i32_424 : BitVec 32 := 32#32
  let c0_i32_425 : BitVec 32 := 0#32
  let v602 : BitVec 1 := Scalar.cmpi .eq c32_i32_424 c0_i32_425
  let c1_i32_426 : BitVec 32 := 1#32
  let v603 : BitVec 32 := Scalar.select v602 c1_i32_426 c32_i32_424
  let v604 : BitVec 32 := Scalar.remsi v601 v603
  let c0_i32_428 : BitVec 32 := 0#32
  let v606 : BitVec 1 := Scalar.cmpi .slt v604 c0_i32_428
  let c0_i32_429 : BitVec 32 := 0#32
  let v607 : BitVec 1 := Scalar.cmpi .slt v603 c0_i32_429
  let v608 : BitVec 1 := Scalar.xori v606 v607
  let c0_i32_427 : BitVec 32 := 0#32
  let v605 : BitVec 1 := Scalar.cmpi .ne v604 c0_i32_427
  let v609 : BitVec 1 := Scalar.andi v608 v605
  let v610 : BitVec 32 := Scalar.addi v604 v603
  let v611 : BitVec 32 := Scalar.select v609 v610 v604
  let c1_i32_434 : BitVec 32 := 1#32
  let v614 : BitVec 32 := Scalar.muli v611 c1_i32_434
  let v615 : BitVec 32 := Scalar.addi c0_i32_435 v614
  v615.toNat
def k0_dev39 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_438 : BitVec 32 := 8#32
  let v622 : BitVec 32 := Scalar.addi v2 c8_i32_438
  let c32_i32_439 : BitVec 32 := 32#32
  let c0_i32_440 : BitVec 32 := 0#32
  let v623 : BitVec 1 := Scalar.cmpi .eq c32_i32_439 c0_i32_440
  let c1_i32_441 : BitVec 32 := 1#32
  let v624 : BitVec 32 := Scalar.select v623 c1_i32_441 c32_i32_439
  let v625 : BitVec 32 := Scalar.remsi v622 v624
  let c0_i32_443 : BitVec 32 := 0#32
  let v627 : BitVec 1 := Scalar.cmpi .slt v625 c0_i32_443
  let c0_i32_444 : BitVec 32 := 0#32
  let v628 : BitVec 1 := Scalar.cmpi .slt v624 c0_i32_444
  let v629 : BitVec 1 := Scalar.xori v627 v628
  let c0_i32_442 : BitVec 32 := 0#32
  let v626 : BitVec 1 := Scalar.cmpi .ne v625 c0_i32_442
  let v630 : BitVec 1 := Scalar.andi v629 v626
  let v631 : BitVec 32 := Scalar.addi v625 v624
  let v632 : BitVec 32 := Scalar.select v630 v631 v625
  let c1_i32_449 : BitVec 32 := 1#32
  let v635 : BitVec 32 := Scalar.muli v632 c1_i32_449
  let v636 : BitVec 32 := Scalar.addi c0_i32_450 v635
  v636.toNat
def k0_dev40 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_453 : BitVec 32 := 9#32
  let v643 : BitVec 32 := Scalar.addi v2 c9_i32_453
  let c32_i32_454 : BitVec 32 := 32#32
  let c0_i32_455 : BitVec 32 := 0#32
  let v644 : BitVec 1 := Scalar.cmpi .eq c32_i32_454 c0_i32_455
  let c1_i32_456 : BitVec 32 := 1#32
  let v645 : BitVec 32 := Scalar.select v644 c1_i32_456 c32_i32_454
  let v646 : BitVec 32 := Scalar.remsi v643 v645
  let c0_i32_458 : BitVec 32 := 0#32
  let v648 : BitVec 1 := Scalar.cmpi .slt v646 c0_i32_458
  let c0_i32_459 : BitVec 32 := 0#32
  let v649 : BitVec 1 := Scalar.cmpi .slt v645 c0_i32_459
  let v650 : BitVec 1 := Scalar.xori v648 v649
  let c0_i32_457 : BitVec 32 := 0#32
  let v647 : BitVec 1 := Scalar.cmpi .ne v646 c0_i32_457
  let v651 : BitVec 1 := Scalar.andi v650 v647
  let v652 : BitVec 32 := Scalar.addi v646 v645
  let v653 : BitVec 32 := Scalar.select v651 v652 v646
  let c1_i32_464 : BitVec 32 := 1#32
  let v656 : BitVec 32 := Scalar.muli v653 c1_i32_464
  let v657 : BitVec 32 := Scalar.addi c0_i32_465 v656
  v657.toNat
def k0_dev41 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_468 : BitVec 32 := 10#32
  let v664 : BitVec 32 := Scalar.addi v2 c10_i32_468
  let c32_i32_469 : BitVec 32 := 32#32
  let c0_i32_470 : BitVec 32 := 0#32
  let v665 : BitVec 1 := Scalar.cmpi .eq c32_i32_469 c0_i32_470
  let c1_i32_471 : BitVec 32 := 1#32
  let v666 : BitVec 32 := Scalar.select v665 c1_i32_471 c32_i32_469
  let v667 : BitVec 32 := Scalar.remsi v664 v666
  let c0_i32_473 : BitVec 32 := 0#32
  let v669 : BitVec 1 := Scalar.cmpi .slt v667 c0_i32_473
  let c0_i32_474 : BitVec 32 := 0#32
  let v670 : BitVec 1 := Scalar.cmpi .slt v666 c0_i32_474
  let v671 : BitVec 1 := Scalar.xori v669 v670
  let c0_i32_472 : BitVec 32 := 0#32
  let v668 : BitVec 1 := Scalar.cmpi .ne v667 c0_i32_472
  let v672 : BitVec 1 := Scalar.andi v671 v668
  let v673 : BitVec 32 := Scalar.addi v667 v666
  let v674 : BitVec 32 := Scalar.select v672 v673 v667
  let c1_i32_479 : BitVec 32 := 1#32
  let v677 : BitVec 32 := Scalar.muli v674 c1_i32_479
  let v678 : BitVec 32 := Scalar.addi c0_i32_480 v677
  v678.toNat
def k0_dev42 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_483 : BitVec 32 := 11#32
  let v685 : BitVec 32 := Scalar.addi v2 c11_i32_483
  let c32_i32_484 : BitVec 32 := 32#32
  let c0_i32_485 : BitVec 32 := 0#32
  let v686 : BitVec 1 := Scalar.cmpi .eq c32_i32_484 c0_i32_485
  let c1_i32_486 : BitVec 32 := 1#32
  let v687 : BitVec 32 := Scalar.select v686 c1_i32_486 c32_i32_484
  let v688 : BitVec 32 := Scalar.remsi v685 v687
  let c0_i32_488 : BitVec 32 := 0#32
  let v690 : BitVec 1 := Scalar.cmpi .slt v688 c0_i32_488
  let c0_i32_489 : BitVec 32 := 0#32
  let v691 : BitVec 1 := Scalar.cmpi .slt v687 c0_i32_489
  let v692 : BitVec 1 := Scalar.xori v690 v691
  let c0_i32_487 : BitVec 32 := 0#32
  let v689 : BitVec 1 := Scalar.cmpi .ne v688 c0_i32_487
  let v693 : BitVec 1 := Scalar.andi v692 v689
  let v694 : BitVec 32 := Scalar.addi v688 v687
  let v695 : BitVec 32 := Scalar.select v693 v694 v688
  let c1_i32_494 : BitVec 32 := 1#32
  let v698 : BitVec 32 := Scalar.muli v695 c1_i32_494
  let v699 : BitVec 32 := Scalar.addi c0_i32_495 v698
  v699.toNat
def k0_dev43 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_498 : BitVec 32 := 12#32
  let v706 : BitVec 32 := Scalar.addi v2 c12_i32_498
  let c32_i32_499 : BitVec 32 := 32#32
  let c0_i32_500 : BitVec 32 := 0#32
  let v707 : BitVec 1 := Scalar.cmpi .eq c32_i32_499 c0_i32_500
  let c1_i32_501 : BitVec 32 := 1#32
  let v708 : BitVec 32 := Scalar.select v707 c1_i32_501 c32_i32_499
  let v709 : BitVec 32 := Scalar.remsi v706 v708
  let c0_i32_503 : BitVec 32 := 0#32
  let v711 : BitVec 1 := Scalar.cmpi .slt v709 c0_i32_503
  let c0_i32_504 : BitVec 32 := 0#32
  let v712 : BitVec 1 := Scalar.cmpi .slt v708 c0_i32_504
  let v713 : BitVec 1 := Scalar.xori v711 v712
  let c0_i32_502 : BitVec 32 := 0#32
  let v710 : BitVec 1 := Scalar.cmpi .ne v709 c0_i32_502
  let v714 : BitVec 1 := Scalar.andi v713 v710
  let v715 : BitVec 32 := Scalar.addi v709 v708
  let v716 : BitVec 32 := Scalar.select v714 v715 v709
  let c1_i32_509 : BitVec 32 := 1#32
  let v719 : BitVec 32 := Scalar.muli v716 c1_i32_509
  let v720 : BitVec 32 := Scalar.addi c0_i32_510 v719
  v720.toNat
def k0_dev44 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_513 : BitVec 32 := 13#32
  let v727 : BitVec 32 := Scalar.addi v2 c13_i32_513
  let c32_i32_514 : BitVec 32 := 32#32
  let c0_i32_515 : BitVec 32 := 0#32
  let v728 : BitVec 1 := Scalar.cmpi .eq c32_i32_514 c0_i32_515
  let c1_i32_516 : BitVec 32 := 1#32
  let v729 : BitVec 32 := Scalar.select v728 c1_i32_516 c32_i32_514
  let v730 : BitVec 32 := Scalar.remsi v727 v729
  let c0_i32_518 : BitVec 32 := 0#32
  let v732 : BitVec 1 := Scalar.cmpi .slt v730 c0_i32_518
  let c0_i32_519 : BitVec 32 := 0#32
  let v733 : BitVec 1 := Scalar.cmpi .slt v729 c0_i32_519
  let v734 : BitVec 1 := Scalar.xori v732 v733
  let c0_i32_517 : BitVec 32 := 0#32
  let v731 : BitVec 1 := Scalar.cmpi .ne v730 c0_i32_517
  let v735 : BitVec 1 := Scalar.andi v734 v731
  let v736 : BitVec 32 := Scalar.addi v730 v729
  let v737 : BitVec 32 := Scalar.select v735 v736 v730
  let c1_i32_524 : BitVec 32 := 1#32
  let v740 : BitVec 32 := Scalar.muli v737 c1_i32_524
  let v741 : BitVec 32 := Scalar.addi c0_i32_525 v740
  v741.toNat
def k0_dev45 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_528 : BitVec 32 := 14#32
  let v748 : BitVec 32 := Scalar.addi v2 c14_i32_528
  let c32_i32_529 : BitVec 32 := 32#32
  let c0_i32_530 : BitVec 32 := 0#32
  let v749 : BitVec 1 := Scalar.cmpi .eq c32_i32_529 c0_i32_530
  let c1_i32_531 : BitVec 32 := 1#32
  let v750 : BitVec 32 := Scalar.select v749 c1_i32_531 c32_i32_529
  let v751 : BitVec 32 := Scalar.remsi v748 v750
  let c0_i32_533 : BitVec 32 := 0#32
  let v753 : BitVec 1 := Scalar.cmpi .slt v751 c0_i32_533
  let c0_i32_534 : BitVec 32 := 0#32
  let v754 : BitVec 1 := Scalar.cmpi .slt v750 c0_i32_534
  let v755 : BitVec 1 := Scalar.xori v753 v754
  let c0_i32_532 : BitVec 32 := 0#32
  let v752 : BitVec 1 := Scalar.cmpi .ne v751 c0_i32_532
  let v756 : BitVec 1 := Scalar.andi v755 v752
  let v757 : BitVec 32 := Scalar.addi v751 v750
  let v758 : BitVec 32 := Scalar.select v756 v757 v751
  let c1_i32_539 : BitVec 32 := 1#32
  let v761 : BitVec 32 := Scalar.muli v758 c1_i32_539
  let v762 : BitVec 32 := Scalar.addi c0_i32_540 v761
  v762.toNat
def k0_dev46 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_543 : BitVec 32 := 15#32
  let v769 : BitVec 32 := Scalar.addi v2 c15_i32_543
  let c32_i32_544 : BitVec 32 := 32#32
  let c0_i32_545 : BitVec 32 := 0#32
  let v770 : BitVec 1 := Scalar.cmpi .eq c32_i32_544 c0_i32_545
  let c1_i32_546 : BitVec 32 := 1#32
  let v771 : BitVec 32 := Scalar.select v770 c1_i32_546 c32_i32_544
  let v772 : BitVec 32 := Scalar.remsi v769 v771
  let c0_i32_548 : BitVec 32 := 0#32
  let v774 : BitVec 1 := Scalar.cmpi .slt v772 c0_i32_548
  let c0_i32_549 : BitVec 32 := 0#32
  let v775 : BitVec 1 := Scalar.cmpi .slt v771 c0_i32_549
  let v776 : BitVec 1 := Scalar.xori v774 v775
  let c0_i32_547 : BitVec 32 := 0#32
  let v773 : BitVec 1 := Scalar.cmpi .ne v772 c0_i32_547
  let v777 : BitVec 1 := Scalar.andi v776 v773
  let v778 : BitVec 32 := Scalar.addi v772 v771
  let v779 : BitVec 32 := Scalar.select v777 v778 v772
  let c1_i32_554 : BitVec 32 := 1#32
  let v782 : BitVec 32 := Scalar.muli v779 c1_i32_554
  let v783 : BitVec 32 := Scalar.addi c0_i32_555 v782
  v783.toNat
def k0_dev47 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_558 : BitVec 32 := 16#32
  let v790 : BitVec 32 := Scalar.addi v2 c16_i32_558
  let c32_i32_559 : BitVec 32 := 32#32
  let c0_i32_560 : BitVec 32 := 0#32
  let v791 : BitVec 1 := Scalar.cmpi .eq c32_i32_559 c0_i32_560
  let c1_i32_561 : BitVec 32 := 1#32
  let v792 : BitVec 32 := Scalar.select v791 c1_i32_561 c32_i32_559
  let v793 : BitVec 32 := Scalar.remsi v790 v792
  let c0_i32_563 : BitVec 32 := 0#32
  let v795 : BitVec 1 := Scalar.cmpi .slt v793 c0_i32_563
  let c0_i32_564 : BitVec 32 := 0#32
  let v796 : BitVec 1 := Scalar.cmpi .slt v792 c0_i32_564
  let v797 : BitVec 1 := Scalar.xori v795 v796
  let c0_i32_562 : BitVec 32 := 0#32
  let v794 : BitVec 1 := Scalar.cmpi .ne v793 c0_i32_562
  let v798 : BitVec 1 := Scalar.andi v797 v794
  let v799 : BitVec 32 := Scalar.addi v793 v792
  let v800 : BitVec 32 := Scalar.select v798 v799 v793
  let c1_i32_569 : BitVec 32 := 1#32
  let v803 : BitVec 32 := Scalar.muli v800 c1_i32_569
  let v804 : BitVec 32 := Scalar.addi c0_i32_570 v803
  v804.toNat
def k0_dev48 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_573 : BitVec 32 := 17#32
  let v811 : BitVec 32 := Scalar.addi v2 c17_i32_573
  let c32_i32_574 : BitVec 32 := 32#32
  let c0_i32_575 : BitVec 32 := 0#32
  let v812 : BitVec 1 := Scalar.cmpi .eq c32_i32_574 c0_i32_575
  let c1_i32_576 : BitVec 32 := 1#32
  let v813 : BitVec 32 := Scalar.select v812 c1_i32_576 c32_i32_574
  let v814 : BitVec 32 := Scalar.remsi v811 v813
  let c0_i32_578 : BitVec 32 := 0#32
  let v816 : BitVec 1 := Scalar.cmpi .slt v814 c0_i32_578
  let c0_i32_579 : BitVec 32 := 0#32
  let v817 : BitVec 1 := Scalar.cmpi .slt v813 c0_i32_579
  let v818 : BitVec 1 := Scalar.xori v816 v817
  let c0_i32_577 : BitVec 32 := 0#32
  let v815 : BitVec 1 := Scalar.cmpi .ne v814 c0_i32_577
  let v819 : BitVec 1 := Scalar.andi v818 v815
  let v820 : BitVec 32 := Scalar.addi v814 v813
  let v821 : BitVec 32 := Scalar.select v819 v820 v814
  let c1_i32_584 : BitVec 32 := 1#32
  let v824 : BitVec 32 := Scalar.muli v821 c1_i32_584
  let v825 : BitVec 32 := Scalar.addi c0_i32_585 v824
  v825.toNat
def k0_dev49 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_588 : BitVec 32 := 18#32
  let v832 : BitVec 32 := Scalar.addi v2 c18_i32_588
  let c32_i32_589 : BitVec 32 := 32#32
  let c0_i32_590 : BitVec 32 := 0#32
  let v833 : BitVec 1 := Scalar.cmpi .eq c32_i32_589 c0_i32_590
  let c1_i32_591 : BitVec 32 := 1#32
  let v834 : BitVec 32 := Scalar.select v833 c1_i32_591 c32_i32_589
  let v835 : BitVec 32 := Scalar.remsi v832 v834
  let c0_i32_593 : BitVec 32 := 0#32
  let v837 : BitVec 1 := Scalar.cmpi .slt v835 c0_i32_593
  let c0_i32_594 : BitVec 32 := 0#32
  let v838 : BitVec 1 := Scalar.cmpi .slt v834 c0_i32_594
  let v839 : BitVec 1 := Scalar.xori v837 v838
  let c0_i32_592 : BitVec 32 := 0#32
  let v836 : BitVec 1 := Scalar.cmpi .ne v835 c0_i32_592
  let v840 : BitVec 1 := Scalar.andi v839 v836
  let v841 : BitVec 32 := Scalar.addi v835 v834
  let v842 : BitVec 32 := Scalar.select v840 v841 v835
  let c1_i32_599 : BitVec 32 := 1#32
  let v845 : BitVec 32 := Scalar.muli v842 c1_i32_599
  let v846 : BitVec 32 := Scalar.addi c0_i32_600 v845
  v846.toNat
def k0_dev50 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_603 : BitVec 32 := 19#32
  let v853 : BitVec 32 := Scalar.addi v2 c19_i32_603
  let c32_i32_604 : BitVec 32 := 32#32
  let c0_i32_605 : BitVec 32 := 0#32
  let v854 : BitVec 1 := Scalar.cmpi .eq c32_i32_604 c0_i32_605
  let c1_i32_606 : BitVec 32 := 1#32
  let v855 : BitVec 32 := Scalar.select v854 c1_i32_606 c32_i32_604
  let v856 : BitVec 32 := Scalar.remsi v853 v855
  let c0_i32_608 : BitVec 32 := 0#32
  let v858 : BitVec 1 := Scalar.cmpi .slt v856 c0_i32_608
  let c0_i32_609 : BitVec 32 := 0#32
  let v859 : BitVec 1 := Scalar.cmpi .slt v855 c0_i32_609
  let v860 : BitVec 1 := Scalar.xori v858 v859
  let c0_i32_607 : BitVec 32 := 0#32
  let v857 : BitVec 1 := Scalar.cmpi .ne v856 c0_i32_607
  let v861 : BitVec 1 := Scalar.andi v860 v857
  let v862 : BitVec 32 := Scalar.addi v856 v855
  let v863 : BitVec 32 := Scalar.select v861 v862 v856
  let c1_i32_614 : BitVec 32 := 1#32
  let v866 : BitVec 32 := Scalar.muli v863 c1_i32_614
  let v867 : BitVec 32 := Scalar.addi c0_i32_615 v866
  v867.toNat
def k0_dev51 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_618 : BitVec 32 := 20#32
  let v874 : BitVec 32 := Scalar.addi v2 c20_i32_618
  let c32_i32_619 : BitVec 32 := 32#32
  let c0_i32_620 : BitVec 32 := 0#32
  let v875 : BitVec 1 := Scalar.cmpi .eq c32_i32_619 c0_i32_620
  let c1_i32_621 : BitVec 32 := 1#32
  let v876 : BitVec 32 := Scalar.select v875 c1_i32_621 c32_i32_619
  let v877 : BitVec 32 := Scalar.remsi v874 v876
  let c0_i32_623 : BitVec 32 := 0#32
  let v879 : BitVec 1 := Scalar.cmpi .slt v877 c0_i32_623
  let c0_i32_624 : BitVec 32 := 0#32
  let v880 : BitVec 1 := Scalar.cmpi .slt v876 c0_i32_624
  let v881 : BitVec 1 := Scalar.xori v879 v880
  let c0_i32_622 : BitVec 32 := 0#32
  let v878 : BitVec 1 := Scalar.cmpi .ne v877 c0_i32_622
  let v882 : BitVec 1 := Scalar.andi v881 v878
  let v883 : BitVec 32 := Scalar.addi v877 v876
  let v884 : BitVec 32 := Scalar.select v882 v883 v877
  let c1_i32_629 : BitVec 32 := 1#32
  let v887 : BitVec 32 := Scalar.muli v884 c1_i32_629
  let v888 : BitVec 32 := Scalar.addi c0_i32_630 v887
  v888.toNat
def k0_dev52 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_633 : BitVec 32 := 21#32
  let v895 : BitVec 32 := Scalar.addi v2 c21_i32_633
  let c32_i32_634 : BitVec 32 := 32#32
  let c0_i32_635 : BitVec 32 := 0#32
  let v896 : BitVec 1 := Scalar.cmpi .eq c32_i32_634 c0_i32_635
  let c1_i32_636 : BitVec 32 := 1#32
  let v897 : BitVec 32 := Scalar.select v896 c1_i32_636 c32_i32_634
  let v898 : BitVec 32 := Scalar.remsi v895 v897
  let c0_i32_638 : BitVec 32 := 0#32
  let v900 : BitVec 1 := Scalar.cmpi .slt v898 c0_i32_638
  let c0_i32_639 : BitVec 32 := 0#32
  let v901 : BitVec 1 := Scalar.cmpi .slt v897 c0_i32_639
  let v902 : BitVec 1 := Scalar.xori v900 v901
  let c0_i32_637 : BitVec 32 := 0#32
  let v899 : BitVec 1 := Scalar.cmpi .ne v898 c0_i32_637
  let v903 : BitVec 1 := Scalar.andi v902 v899
  let v904 : BitVec 32 := Scalar.addi v898 v897
  let v905 : BitVec 32 := Scalar.select v903 v904 v898
  let c1_i32_644 : BitVec 32 := 1#32
  let v908 : BitVec 32 := Scalar.muli v905 c1_i32_644
  let v909 : BitVec 32 := Scalar.addi c0_i32_645 v908
  v909.toNat
def k0_dev53 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_648 : BitVec 32 := 22#32
  let v916 : BitVec 32 := Scalar.addi v2 c22_i32_648
  let c32_i32_649 : BitVec 32 := 32#32
  let c0_i32_650 : BitVec 32 := 0#32
  let v917 : BitVec 1 := Scalar.cmpi .eq c32_i32_649 c0_i32_650
  let c1_i32_651 : BitVec 32 := 1#32
  let v918 : BitVec 32 := Scalar.select v917 c1_i32_651 c32_i32_649
  let v919 : BitVec 32 := Scalar.remsi v916 v918
  let c0_i32_653 : BitVec 32 := 0#32
  let v921 : BitVec 1 := Scalar.cmpi .slt v919 c0_i32_653
  let c0_i32_654 : BitVec 32 := 0#32
  let v922 : BitVec 1 := Scalar.cmpi .slt v918 c0_i32_654
  let v923 : BitVec 1 := Scalar.xori v921 v922
  let c0_i32_652 : BitVec 32 := 0#32
  let v920 : BitVec 1 := Scalar.cmpi .ne v919 c0_i32_652
  let v924 : BitVec 1 := Scalar.andi v923 v920
  let v925 : BitVec 32 := Scalar.addi v919 v918
  let v926 : BitVec 32 := Scalar.select v924 v925 v919
  let c1_i32_659 : BitVec 32 := 1#32
  let v929 : BitVec 32 := Scalar.muli v926 c1_i32_659
  let v930 : BitVec 32 := Scalar.addi c0_i32_660 v929
  v930.toNat
def k0_dev54 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_663 : BitVec 32 := 23#32
  let v937 : BitVec 32 := Scalar.addi v2 c23_i32_663
  let c32_i32_664 : BitVec 32 := 32#32
  let c0_i32_665 : BitVec 32 := 0#32
  let v938 : BitVec 1 := Scalar.cmpi .eq c32_i32_664 c0_i32_665
  let c1_i32_666 : BitVec 32 := 1#32
  let v939 : BitVec 32 := Scalar.select v938 c1_i32_666 c32_i32_664
  let v940 : BitVec 32 := Scalar.remsi v937 v939
  let c0_i32_668 : BitVec 32 := 0#32
  let v942 : BitVec 1 := Scalar.cmpi .slt v940 c0_i32_668
  let c0_i32_669 : BitVec 32 := 0#32
  let v943 : BitVec 1 := Scalar.cmpi .slt v939 c0_i32_669
  let v944 : BitVec 1 := Scalar.xori v942 v943
  let c0_i32_667 : BitVec 32 := 0#32
  let v941 : BitVec 1 := Scalar.cmpi .ne v940 c0_i32_667
  let v945 : BitVec 1 := Scalar.andi v944 v941
  let v946 : BitVec 32 := Scalar.addi v940 v939
  let v947 : BitVec 32 := Scalar.select v945 v946 v940
  let c1_i32_674 : BitVec 32 := 1#32
  let v950 : BitVec 32 := Scalar.muli v947 c1_i32_674
  let v951 : BitVec 32 := Scalar.addi c0_i32_675 v950
  v951.toNat
def k0_dev55 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_678 : BitVec 32 := 24#32
  let v958 : BitVec 32 := Scalar.addi v2 c24_i32_678
  let c32_i32_679 : BitVec 32 := 32#32
  let c0_i32_680 : BitVec 32 := 0#32
  let v959 : BitVec 1 := Scalar.cmpi .eq c32_i32_679 c0_i32_680
  let c1_i32_681 : BitVec 32 := 1#32
  let v960 : BitVec 32 := Scalar.select v959 c1_i32_681 c32_i32_679
  let v961 : BitVec 32 := Scalar.remsi v958 v960
  let c0_i32_683 : BitVec 32 := 0#32
  let v963 : BitVec 1 := Scalar.cmpi .slt v961 c0_i32_683
  let c0_i32_684 : BitVec 32 := 0#32
  let v964 : BitVec 1 := Scalar.cmpi .slt v960 c0_i32_684
  let v965 : BitVec 1 := Scalar.xori v963 v964
  let c0_i32_682 : BitVec 32 := 0#32
  let v962 : BitVec 1 := Scalar.cmpi .ne v961 c0_i32_682
  let v966 : BitVec 1 := Scalar.andi v965 v962
  let v967 : BitVec 32 := Scalar.addi v961 v960
  let v968 : BitVec 32 := Scalar.select v966 v967 v961
  let c1_i32_689 : BitVec 32 := 1#32
  let v971 : BitVec 32 := Scalar.muli v968 c1_i32_689
  let v972 : BitVec 32 := Scalar.addi c0_i32_690 v971
  v972.toNat
def k0_dev56 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_693 : BitVec 32 := 25#32
  let v979 : BitVec 32 := Scalar.addi v2 c25_i32_693
  let c32_i32_694 : BitVec 32 := 32#32
  let c0_i32_695 : BitVec 32 := 0#32
  let v980 : BitVec 1 := Scalar.cmpi .eq c32_i32_694 c0_i32_695
  let c1_i32_696 : BitVec 32 := 1#32
  let v981 : BitVec 32 := Scalar.select v980 c1_i32_696 c32_i32_694
  let v982 : BitVec 32 := Scalar.remsi v979 v981
  let c0_i32_698 : BitVec 32 := 0#32
  let v984 : BitVec 1 := Scalar.cmpi .slt v982 c0_i32_698
  let c0_i32_699 : BitVec 32 := 0#32
  let v985 : BitVec 1 := Scalar.cmpi .slt v981 c0_i32_699
  let v986 : BitVec 1 := Scalar.xori v984 v985
  let c0_i32_697 : BitVec 32 := 0#32
  let v983 : BitVec 1 := Scalar.cmpi .ne v982 c0_i32_697
  let v987 : BitVec 1 := Scalar.andi v986 v983
  let v988 : BitVec 32 := Scalar.addi v982 v981
  let v989 : BitVec 32 := Scalar.select v987 v988 v982
  let c1_i32_704 : BitVec 32 := 1#32
  let v992 : BitVec 32 := Scalar.muli v989 c1_i32_704
  let v993 : BitVec 32 := Scalar.addi c0_i32_705 v992
  v993.toNat
def k0_dev57 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_708 : BitVec 32 := 26#32
  let v1000 : BitVec 32 := Scalar.addi v2 c26_i32_708
  let c32_i32_709 : BitVec 32 := 32#32
  let c0_i32_710 : BitVec 32 := 0#32
  let v1001 : BitVec 1 := Scalar.cmpi .eq c32_i32_709 c0_i32_710
  let c1_i32_711 : BitVec 32 := 1#32
  let v1002 : BitVec 32 := Scalar.select v1001 c1_i32_711 c32_i32_709
  let v1003 : BitVec 32 := Scalar.remsi v1000 v1002
  let c0_i32_713 : BitVec 32 := 0#32
  let v1005 : BitVec 1 := Scalar.cmpi .slt v1003 c0_i32_713
  let c0_i32_714 : BitVec 32 := 0#32
  let v1006 : BitVec 1 := Scalar.cmpi .slt v1002 c0_i32_714
  let v1007 : BitVec 1 := Scalar.xori v1005 v1006
  let c0_i32_712 : BitVec 32 := 0#32
  let v1004 : BitVec 1 := Scalar.cmpi .ne v1003 c0_i32_712
  let v1008 : BitVec 1 := Scalar.andi v1007 v1004
  let v1009 : BitVec 32 := Scalar.addi v1003 v1002
  let v1010 : BitVec 32 := Scalar.select v1008 v1009 v1003
  let c1_i32_719 : BitVec 32 := 1#32
  let v1013 : BitVec 32 := Scalar.muli v1010 c1_i32_719
  let v1014 : BitVec 32 := Scalar.addi c0_i32_720 v1013
  v1014.toNat
def k0_dev58 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_723 : BitVec 32 := 27#32
  let v1021 : BitVec 32 := Scalar.addi v2 c27_i32_723
  let c32_i32_724 : BitVec 32 := 32#32
  let c0_i32_725 : BitVec 32 := 0#32
  let v1022 : BitVec 1 := Scalar.cmpi .eq c32_i32_724 c0_i32_725
  let c1_i32_726 : BitVec 32 := 1#32
  let v1023 : BitVec 32 := Scalar.select v1022 c1_i32_726 c32_i32_724
  let v1024 : BitVec 32 := Scalar.remsi v1021 v1023
  let c0_i32_728 : BitVec 32 := 0#32
  let v1026 : BitVec 1 := Scalar.cmpi .slt v1024 c0_i32_728
  let c0_i32_729 : BitVec 32 := 0#32
  let v1027 : BitVec 1 := Scalar.cmpi .slt v1023 c0_i32_729
  let v1028 : BitVec 1 := Scalar.xori v1026 v1027
  let c0_i32_727 : BitVec 32 := 0#32
  let v1025 : BitVec 1 := Scalar.cmpi .ne v1024 c0_i32_727
  let v1029 : BitVec 1 := Scalar.andi v1028 v1025
  let v1030 : BitVec 32 := Scalar.addi v1024 v1023
  let v1031 : BitVec 32 := Scalar.select v1029 v1030 v1024
  let c1_i32_734 : BitVec 32 := 1#32
  let v1034 : BitVec 32 := Scalar.muli v1031 c1_i32_734
  let v1035 : BitVec 32 := Scalar.addi c0_i32_735 v1034
  v1035.toNat
def k0_dev59 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_738 : BitVec 32 := 28#32
  let v1042 : BitVec 32 := Scalar.addi v2 c28_i32_738
  let c32_i32_739 : BitVec 32 := 32#32
  let c0_i32_740 : BitVec 32 := 0#32
  let v1043 : BitVec 1 := Scalar.cmpi .eq c32_i32_739 c0_i32_740
  let c1_i32_741 : BitVec 32 := 1#32
  let v1044 : BitVec 32 := Scalar.select v1043 c1_i32_741 c32_i32_739
  let v1045 : BitVec 32 := Scalar.remsi v1042 v1044
  let c0_i32_743 : BitVec 32 := 0#32
  let v1047 : BitVec 1 := Scalar.cmpi .slt v1045 c0_i32_743
  let c0_i32_744 : BitVec 32 := 0#32
  let v1048 : BitVec 1 := Scalar.cmpi .slt v1044 c0_i32_744
  let v1049 : BitVec 1 := Scalar.xori v1047 v1048
  let c0_i32_742 : BitVec 32 := 0#32
  let v1046 : BitVec 1 := Scalar.cmpi .ne v1045 c0_i32_742
  let v1050 : BitVec 1 := Scalar.andi v1049 v1046
  let v1051 : BitVec 32 := Scalar.addi v1045 v1044
  let v1052 : BitVec 32 := Scalar.select v1050 v1051 v1045
  let c1_i32_749 : BitVec 32 := 1#32
  let v1055 : BitVec 32 := Scalar.muli v1052 c1_i32_749
  let v1056 : BitVec 32 := Scalar.addi c0_i32_750 v1055
  v1056.toNat
def k0_dev60 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_753 : BitVec 32 := 29#32
  let v1063 : BitVec 32 := Scalar.addi v2 c29_i32_753
  let c32_i32_754 : BitVec 32 := 32#32
  let c0_i32_755 : BitVec 32 := 0#32
  let v1064 : BitVec 1 := Scalar.cmpi .eq c32_i32_754 c0_i32_755
  let c1_i32_756 : BitVec 32 := 1#32
  let v1065 : BitVec 32 := Scalar.select v1064 c1_i32_756 c32_i32_754
  let v1066 : BitVec 32 := Scalar.remsi v1063 v1065
  let c0_i32_758 : BitVec 32 := 0#32
  let v1068 : BitVec 1 := Scalar.cmpi .slt v1066 c0_i32_758
  let c0_i32_759 : BitVec 32 := 0#32
  let v1069 : BitVec 1 := Scalar.cmpi .slt v1065 c0_i32_759
  let v1070 : BitVec 1 := Scalar.xori v1068 v1069
  let c0_i32_757 : BitVec 32 := 0#32
  let v1067 : BitVec 1 := Scalar.cmpi .ne v1066 c0_i32_757
  let v1071 : BitVec 1 := Scalar.andi v1070 v1067
  let v1072 : BitVec 32 := Scalar.addi v1066 v1065
  let v1073 : BitVec 32 := Scalar.select v1071 v1072 v1066
  let c1_i32_764 : BitVec 32 := 1#32
  let v1076 : BitVec 32 := Scalar.muli v1073 c1_i32_764
  let v1077 : BitVec 32 := Scalar.addi c0_i32_765 v1076
  v1077.toNat
def k0_dev61 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_768 : BitVec 32 := 30#32
  let v1084 : BitVec 32 := Scalar.addi v2 c30_i32_768
  let c32_i32_769 : BitVec 32 := 32#32
  let c0_i32_770 : BitVec 32 := 0#32
  let v1085 : BitVec 1 := Scalar.cmpi .eq c32_i32_769 c0_i32_770
  let c1_i32_771 : BitVec 32 := 1#32
  let v1086 : BitVec 32 := Scalar.select v1085 c1_i32_771 c32_i32_769
  let v1087 : BitVec 32 := Scalar.remsi v1084 v1086
  let c0_i32_773 : BitVec 32 := 0#32
  let v1089 : BitVec 1 := Scalar.cmpi .slt v1087 c0_i32_773
  let c0_i32_774 : BitVec 32 := 0#32
  let v1090 : BitVec 1 := Scalar.cmpi .slt v1086 c0_i32_774
  let v1091 : BitVec 1 := Scalar.xori v1089 v1090
  let c0_i32_772 : BitVec 32 := 0#32
  let v1088 : BitVec 1 := Scalar.cmpi .ne v1087 c0_i32_772
  let v1092 : BitVec 1 := Scalar.andi v1091 v1088
  let v1093 : BitVec 32 := Scalar.addi v1087 v1086
  let v1094 : BitVec 32 := Scalar.select v1092 v1093 v1087
  let c1_i32_779 : BitVec 32 := 1#32
  let v1097 : BitVec 32 := Scalar.muli v1094 c1_i32_779
  let v1098 : BitVec 32 := Scalar.addi c0_i32_780 v1097
  v1098.toNat
def k0_dev62 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_783 : BitVec 32 := 31#32
  let v1105 : BitVec 32 := Scalar.addi v2 c31_i32_783
  let c32_i32_784 : BitVec 32 := 32#32
  let c0_i32_785 : BitVec 32 := 0#32
  let v1106 : BitVec 1 := Scalar.cmpi .eq c32_i32_784 c0_i32_785
  let c1_i32_786 : BitVec 32 := 1#32
  let v1107 : BitVec 32 := Scalar.select v1106 c1_i32_786 c32_i32_784
  let v1108 : BitVec 32 := Scalar.remsi v1105 v1107
  let c0_i32_788 : BitVec 32 := 0#32
  let v1110 : BitVec 1 := Scalar.cmpi .slt v1108 c0_i32_788
  let c0_i32_789 : BitVec 32 := 0#32
  let v1111 : BitVec 1 := Scalar.cmpi .slt v1107 c0_i32_789
  let v1112 : BitVec 1 := Scalar.xori v1110 v1111
  let c0_i32_787 : BitVec 32 := 0#32
  let v1109 : BitVec 1 := Scalar.cmpi .ne v1108 c0_i32_787
  let v1113 : BitVec 1 := Scalar.andi v1112 v1109
  let v1114 : BitVec 32 := Scalar.addi v1108 v1107
  let v1115 : BitVec 32 := Scalar.select v1113 v1114 v1108
  let c1_i32_794 : BitVec 32 := 1#32
  let v1118 : BitVec 32 := Scalar.muli v1115 c1_i32_794
  let v1119 : BitVec 32 := Scalar.addi c0_i32_795 v1118
  v1119.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_854 : BitVec 32 := 256#32
  let v1194 : BitVec 32 := Scalar.muli v2 c256_i32_854
  let v1195 : Index := Scalar.indexCast v1194
  let c0 : Index := 0#32
  ![v1195.toNat, 0]
def k0_off5 (d0 : Dev nD) (c1_i32_857 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1201 : BitVec 32 := Scalar.subi v2 c1_i32_857
  let c32_i32_858 : BitVec 32 := 32#32
  let c0_i32_859 : BitVec 32 := 0#32
  let v1202 : BitVec 1 := Scalar.cmpi .eq c32_i32_858 c0_i32_859
  let c1_i32_860 : BitVec 32 := 1#32
  let v1203 : BitVec 32 := Scalar.select v1202 c1_i32_860 c32_i32_858
  let v1204 : BitVec 32 := Scalar.remsi v1201 v1203
  let c0_i32_862 : BitVec 32 := 0#32
  let v1206 : BitVec 1 := Scalar.cmpi .slt v1204 c0_i32_862
  let c0_i32_863 : BitVec 32 := 0#32
  let v1207 : BitVec 1 := Scalar.cmpi .slt v1203 c0_i32_863
  let v1208 : BitVec 1 := Scalar.xori v1206 v1207
  let c0_i32_861 : BitVec 32 := 0#32
  let v1205 : BitVec 1 := Scalar.cmpi .ne v1204 c0_i32_861
  let v1209 : BitVec 1 := Scalar.andi v1208 v1205
  let v1210 : BitVec 32 := Scalar.addi v1204 v1203
  let v1211 : BitVec 32 := Scalar.select v1209 v1210 v1204
  let c256_i32_864 : BitVec 32 := 256#32
  let v1212 : BitVec 32 := Scalar.muli v1211 c256_i32_864
  let c0_i32_869 : BitVec 32 := 0#32
  ![v1212.toNat, 0]
def k0_off6 (d0 : Dev nD) (c1_i32_872 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1219 : BitVec 32 := Scalar.subi v2 c1_i32_872
  let c32_i32_873 : BitVec 32 := 32#32
  let c0_i32_874 : BitVec 32 := 0#32
  let v1220 : BitVec 1 := Scalar.cmpi .eq c32_i32_873 c0_i32_874
  let c1_i32_875 : BitVec 32 := 1#32
  let v1221 : BitVec 32 := Scalar.select v1220 c1_i32_875 c32_i32_873
  let v1222 : BitVec 32 := Scalar.remsi v1219 v1221
  let c0_i32_877 : BitVec 32 := 0#32
  let v1224 : BitVec 1 := Scalar.cmpi .slt v1222 c0_i32_877
  let c0_i32_878 : BitVec 32 := 0#32
  let v1225 : BitVec 1 := Scalar.cmpi .slt v1221 c0_i32_878
  let v1226 : BitVec 1 := Scalar.xori v1224 v1225
  let c0_i32_876 : BitVec 32 := 0#32
  let v1223 : BitVec 1 := Scalar.cmpi .ne v1222 c0_i32_876
  let v1227 : BitVec 1 := Scalar.andi v1226 v1223
  let v1228 : BitVec 32 := Scalar.addi v1222 v1221
  let v1229 : BitVec 32 := Scalar.select v1227 v1228 v1222
  let c256_i32_879 : BitVec 32 := 256#32
  let v1230 : BitVec 32 := Scalar.muli v1229 c256_i32_879
  let v1231 : Index := Scalar.indexCast v1230
  let c0_880 : Index := 0#32
  ![v1231.toNat, 0]
abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Blocks.lean ====
/-
A sum over 8192 places, taken in eight groups of 1024 that follow a device's own order of the blocks.
-/
module

public import Mathlib.Algebra.BigOperators.Group.Finset.Basic
public import Mathlib.Data.Fintype.BigOperators
public import Mathlib.Tactic.Ring

@[expose] public section

namespace Cert.A2AMath

/-- The block a device meets at part `k / 256` of group `j`: it starts at its own and goes down, round a ring of 32. -/
def blk (c : Fin 32) (j : Fin 8) (k : Fin 1024) : ℕ := (c.val + (32 - (4 * j.val + k.val / 256))) % 32

/-- The place among all 8192 of place `k` of group `j`. -/
def place (c : Fin 32) (q : Fin 8 × Fin 1024) : Fin 8192 :=
  ⟨256 * blk c q.1 q.2 + q.2.val % 256, by
    have : blk c q.1 q.2 < 32 := Nat.mod_lt _ (by decide)
    omega⟩

/-- No two places of the groups are the same. -/
theorem place_injective (c : Fin 32) : Function.Injective (place c) := by
  rintro ⟨j, k⟩ ⟨j', k'⟩ h
  have h' := congrArg Fin.val h
  simp only [place, blk] at h'
  have := c.isLt; have := j.isLt; have := j'.isLt; have := k.isLt; have := k'.isLt
  exact Prod.ext (Fin.ext (by dsimp only; omega)) (Fin.ext (by dsimp only; omega))

/-- Every place is met once. -/
theorem place_bijective (c : Fin 32) : Function.Bijective (place c) :=
  (Fintype.bijective_iff_injective_and_card _).2 ⟨place_injective c, by simp⟩

/-- The groups' sums add up to the sum over all places. -/
theorem sum_place {M : Type*} [AddCommMonoid M] (c : Fin 32) (f : Fin 8192 → M) :
    ∑ j : Fin 8, ∑ k : Fin 1024, f (place c (j, k)) = ∑ n, f n := by
  rw [← Fintype.sum_prod_type']
  exact (place_bijective c).sum_comp f

end Cert.A2AMath

end
-- ==== Proof.IProg.lean ====
/-
The body of the kernel, as a program of a few kinds of step.

Every one of the kernel's several hundred effects is one of the steps below, at an offset `d`, a block `g`
or a group `j`; `body_eq` says that the printed body is the steps in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.A2A

open Idealize.ShloMosaic Idealize.ShloMosaic.TcCoe
open Idealize.SL Idealize.SL.Sem
open Cert.KernelIdeal Cert.KernelIdeal.Gen

variable {F : FTy → Type} [FloatOps F]

/-- The kernel's programs. -/
abbrev KProg (F : FTy → Type) [FloatOps F] := Prog (TpuEff nD τ sig (Elt F) Λ₀ .tc) PUnit

/-- Steps `0 … n-1` of a family, then `k`. -/
def seqFin : (n : ℕ) → (Fin n → KProg F → KProg F) → KProg F → KProg F
  | 0, _, k => k
  | n + 1, s, k => s 0 (seqFin n (fun i => s i.succ) k)

/-! ## The buffers and semaphores -/

abbrev xM : Memref sig .tc .vmem S8192x256 .bf16 := Memref.whole cc0_stg0_0
abbrev wM : Memref sig .tc .hbm S8192x4096 .f32 := Memref.whole main_arg1
abbrev oM : Memref sig .tc .vmem S256x4096 .f32 := Memref.whole cc0_stg1_0
abbrev bufM : Memref sig .tc .vmem S8192x256 .bf16 := Memref.whole cc0_scratch0
abbrev aM : Memref sig .tc .vmem S256x1024 .bf16 := Memref.whole cc0_scratch1
abbrev wgM : Memref sig .tc .vmem S2x1024x4096 .f32 := Memref.whole cc0_scratch2

theorem inb_sem31 (d : Fin 31) : ∀ a, (![d.val] : Fin 1 → ℕ) a + S1.size a ≤ S31.size a := by
  intro a; fin_cases a; have := d.isLt; show d.val + 1 ≤ 31; omega
theorem inb_sem24 (j : Fin 8) (p : Fin 4) : ∀ a, (![j.val % 2, p.val] : Fin 2 → ℕ) a + S1x1.size a ≤ S2x4.size a := by
  intro a; have := p.isLt
  match a with
  | 0 => show j.val % 2 + 1 ≤ 2; omega
  | 1 => show p.val + 1 ≤ 4; omega
theorem inb_wg (j : Fin 8) (p : Fin 4) :
    ∀ a, (![j.val % 2, p.val * 256, 0] : Fin 3 → ℕ) a + S1x256x4096.size a ≤ S2x1024x4096.size a := by
  intro a; have := p.isLt
  match a with
  | 0 => show j.val % 2 + 1 ≤ 2; omega
  | 1 => show p.val * 256 + 256 ≤ 1024; omega
  | 2 => show 0 + 4096 ≤ 4096; omega
theorem inb_wslot (j : Fin 8) :
    ∀ a, (![j.val % 2, 0, 0] : Fin 3 → ℕ) a + S1x1024x4096.size a ≤ S2x1024x4096.size a := by
  intro a
  match a with
  | 0 => show j.val % 2 + 1 ≤ 2; omega
  | 1 => show 0 + 1024 ≤ 1024; omega
  | 2 => show 0 + 4096 ≤ 4096; omega
theorem inb_a (p : Fin 4) : ∀ a, (![0, p.val * 256] : Fin 2 → ℕ) a + S256x256.size a ≤ S256x1024.size a := by
  intro a; have := p.isLt
  match a with
  | 0 => show 0 + 256 ≤ 256; omega
  | 1 => show p.val * 256 + 256 ≤ 1024; omega
theorem packed_a (p : Fin 4) :
    (Rect.unit (s := S256x1024) ![0, p.val * 256] S256x256.size (inb_a p)).PackedRows (EltTy.packing .bf16) := by
  match p with
  | 0 => exact packedbf16_S256x1024_S256x256_0_0
  | 1 => exact packedbf16_S256x1024_S256x256_0_256
  | 2 => exact packedbf16_S256x1024_S256x256_0_512
  | 3 => exact packedbf16_S256x1024_S256x256_0_768

/-- The send semaphore of offset `d + 1`, -/
abbrev sendS (d : Fin 31) : DmaSem sig :=
  ((cc0_scratch3.slice (Rect.unit (s := S31) ![d.val] S1.size (inb_sem31 d))).squeeze S_ squeezes_S1_S_).sem
/-- the receive semaphore of offset `d + 1`, -/
abbrev recvS (d : Fin 31) : DmaSem sig :=
  ((cc0_scratch4.slice (Rect.unit (s := S31) ![d.val] S1.size (inb_sem31 d))).squeeze S_ squeezes_S1_S_).sem
/-- the semaphore of part `p` of the slot group `j` uses, -/
abbrev wS (j : Fin 8) (p : Fin 4) : DmaSem sig :=
  ((cc0_scratch5.slice (Rect.unit (s := S2x4) ![j.val % 2, p.val] S1x1.size (inb_sem24 j p))).squeeze S_ squeezes_S1x1_S_).sem
/-- the barrier semaphore. -/
abbrev barS : Sem sig := (SemArray.scalar (sig.barrier 0 rfl) : Sems sig S_).sem

/-- Block `g` in order of use of the weights. -/
def blkN (j : Fin 8) (p : Fin 4) : Fin 32 := ⟨4 * j.val + p.val, by have := j.isLt; have := p.isLt; omega⟩

/-- The rows of the weights that part `p` of group `j` takes, -/
abbrev wSrc (c : Dev nD) (j : Fin 8) (p : Fin 4) : Memref sig .tc .hbm S256x4096 .f32 :=
  wM.slice (Rect.unit (s := S8192x4096) (k0_off1 c (BitVec.ofNat 32 (blkN j p).val)) S256x4096.size (k0_off1_inb c (blkN j p))) (fun _ => rfl)
/-- and where they are put. -/
abbrev wDst (j : Fin 8) (p : Fin 4) : Memref sig .tc .vmem S256x4096 .f32 :=
  (wgM.slice (Rect.unit (s := S2x1024x4096) ![j.val % 2, p.val * 256, 0] S1x256x4096.size (inb_wg j p)) (fun _ => rfl)).squeeze
    S256x4096 squeezes_S1x256x4096_S256x4096
/-- The rows of `x` for the peer at offset `d + 1`, -/
abbrev xSrc (c : Dev nD) (d : Fin 31) : Memref sig .tc .vmem S256x256 .bf16 :=
  xM.slice (Rect.unit (s := S8192x256) (k0_off3 c (BitVec.ofNat 32 (1 + d.val))) S256x256.size (k0_off3_inb c d)) (fun _ => rfl)
/-- the rows device `c` fills on every peer, -/
abbrev bufMine (c : Dev nD) : Memref sig .tc .vmem S256x256 .bf16 :=
  bufM.slice (Rect.unit (s := S8192x256) (k0_off2 c) S256x256.size (k0_off2_inb c)) (fun _ => rfl)
/-- the rows the device at offset `-(d + 1)` fills here. -/
abbrev bufFrom (c : Dev nD) (d : Fin 31) : Memref sig .tc .vmem S256x256 .bf16 :=
  bufM.slice (Rect.unit (s := S8192x256) (k0_off5 c (BitVec.ofNat 32 (1 + d.val))) S256x256.size (k0_off5_inb c d)) (fun _ => rfl)

/-! ## The peers -/

/-- The number of the device at offset `d`, as the kernel computes it. -/
def peerN (c : Dev nD) (d : BitVec 32) : ℕ :=
  let v2 : BitVec 32 := Scalar.remsi (Scalar.divsi (Dev.word c) 1#32) 32#32
  let n : BitVec 32 := Scalar.select (Scalar.cmpi .eq 32#32 0#32) 1#32 32#32
  let r : BitVec 32 := Scalar.remsi (Scalar.addi v2 d) n
  let t : BitVec 1 := Scalar.andi (Scalar.xori (Scalar.cmpi .slt r 0#32) (Scalar.cmpi .slt n 0#32)) (Scalar.cmpi .ne r 0#32)
  (Scalar.addi 0#32 (Scalar.muli (Scalar.select t (Scalar.addi r n) r) 1#32)).toNat

theorem peerN_eq : ∀ (c : Dev nD) (d : Fin 31), peerN c (BitVec.ofNat 32 (1 + d.val)) = (c.val + (1 + d.val)) % 32 := by
  decide +kernel

theorem peerN_lt (c : Dev nD) (d : Fin 31) : peerN c (BitVec.ofNat 32 (1 + d.val)) < nD := by
  rw [peerN_eq]; exact Nat.mod_lt _ (by decide)

/-- The device at offset `d + 1`. -/
abbrev peer (c : Dev nD) (d : Fin 31) : Dev nD := ⟨peerN c (BitVec.ofNat 32 (1 + d.val)), peerN_lt c d⟩

/-! ## The steps -/

/-- Start the copy of part `p` of group `j` of the weights. -/
def wStart (c : Dev nD) (j : Fin 8) (p : Fin 4) (k : KProg F) : KProg F :=
  .op (.enqueueDma (wSrc c j p) (.here (wDst j p)) (.dma (wS j p)) (View.wordExact_bits rfl)
    ((View.wordExact_bits rfl).reshape _ _) ⟨Or.inl rfl, trivial⟩) fun _ => k
/-- Wait for it. -/
def wWait (c : Dev nD) (j : Fin 8) (p : Fin 4) (k : KProg F) : KProg F :=
  .op (.waitDma2 (wS j p) (wSrc c j p) (wDst j p) (View.wordExact_bits rfl) ((View.wordExact_bits rfl).reshape _ _)) fun _ => k
/-- Tell the peer at offset `d + 1` that this device is there. -/
def sigStep (c : Dev nD) (d : Fin 31) (k : KProg F) : KProg F :=
  .op (.semSignal (Dev.tc (peer c d)) barS (1#32).toInt) fun _ => k
/-- Wait for all the peers. -/
def barStep (k : KProg F) : KProg F := .op (.semWait barS (31#32).toInt) fun _ => k
/-- Send the peer at offset `d + 1` its rows of `x`. -/
def sendStep (c : Dev nD) (d : Fin 31) (k : KProg F) : KProg F :=
  .op (.enqueueDma (xSrc c d) (.remote (Dev.tc (peer c d)) (bufMine c) (.dma (sendS d))) (.dma (recvS d))
    ((Memref.isWhole_whole _).wordExact_slice rfl _ (k0_off3_wordsbf16 c d))
    ((Memref.isWhole_whole _).wordExact_slice rfl _ (k0_off2_wordsbf16 c)) ⟨⟨rfl, Or.inl rfl⟩, trivial⟩) fun _ => k
/-- Wait until they have been read. -/
def sentStep (c : Dev nD) (d : Fin 31) (k : KProg F) : KProg F :=
  .op (.waitDma2 (sendS d) (bufMine c) (xSrc c d) ((Memref.isWhole_whole _).wordExact_slice rfl _ (k0_off2_wordsbf16 c))
    ((Memref.isWhole_whole _).wordExact_slice rfl _ (k0_off3_wordsbf16 c d))) fun _ => k
/-- Put a block into the columns of part `p` of the left operand. -/
def putA (p : Fin 4) (v : Vec F S256x256 .bf16) (k : KProg F) : KProg F :=
  .op (.load aM (Rect.unit (s := S256x1024) ![0, p.val * 256] S256x256.size (inb_a p)).toLoadRect (View.loadsAt_vmem h_S256x256)) fun _ =>
    .op (.store aM (Rect.unit (s := S256x1024) ![0, p.val * 256] S256x256.size (inb_a p)) v Finset.univ
      (View.stores_vmem h_S256x256 ((Memref.isWhole_whole _).storeExact_slice rfl _ (packed_a p)) (fun _ => rfl)) (.inl rfl)) fun _ => k
/-- The device's own block of `x`. -/
def ownStep (c : Dev nD) (k : KProg F) : KProg F :=
  .op (.load xM (Rect.unit (s := S8192x256) (k0_off4 c) S256x256.size (k0_off4_inb c)).toLoadRect (View.loadsAt_vmem h_S256x256)) fun v =>
    putA 0 (shapeCast S256x256 (shapeCast S256x256 v shapeCasts_S256x256_S256x256) shapeCasts_S256x256_S256x256) k
/-- The block the device at offset `-(d + 1)` sent. -/
def recvStep (c : Dev nD) (d : Fin 31) (p : Fin 4) (k : KProg F) : KProg F :=
  .op (.waitDma2 (recvS d) (xM.slice (Rect.unit (s := S8192x256) ![0, 0] S256x256.size inb_S8192x256_S256x256_0_0) (fun _ => rfl)) (bufFrom c d)
    ((Memref.isWhole_whole _).wordExact_slice rfl _ wordsbf16_S8192x256_S256x256_0_0)
    ((Memref.isWhole_whole _).wordExact_slice rfl _ (k0_off5_wordsbf16 c d))) fun _ =>
  .op (.load bufM (Rect.unit (s := S8192x256) (k0_off6 c (BitVec.ofNat 32 (1 + d.val))) S256x256.size (k0_off6_inb c d)).toLoadRect
    (View.loadsAt_vmem h_S256x256)) fun v =>
    putA p (shapeCast S256x256 v shapeCasts_S256x256_S256x256) k
/-- The product of a group's left operand and weights. -/
def prodV (w : Vec F S1x1024x4096 .f32) (a : Vec F S256x1024 .bf16) : FVec F S256x4096 .f32 :=
  matmul dot_S256x1024_S1024x4096_S256x4096_1_0_0_1_n_n none a
    (truncf .bf16 (shapeCast S1024x4096 w shapeCasts_S1x1024x4096_S1024x4096) bitsLt_bf16_f32) (constant S256x4096 .f32 0x00000000#32)
/-- Read a group's operands. -/
def opnds (j : Fin 8) (k : Vec F S1x1024x4096 .f32 → Vec F S256x1024 .bf16 → KProg F) : KProg F :=
  .op (.load wgM (Rect.unit (s := S2x1024x4096) ![j.val % 2, 0, 0] S1x1024x4096.size (inb_wslot j)).toLoadRect (View.loadsAt_vmem h_S1x1024x4096)) fun w =>
  .op (.load aM (Rect.unit (s := S256x1024) ![0, 0] S256x1024.size inb_S256x1024_S256x1024_0_0).toLoadRect (View.loadsAt_vmem h_S256x1024)) fun a => k w a
/-- Read the result's buffer. -/
def loadO (k : Vec F S256x4096 .f32 → KProg F) : KProg F :=
  .op (.load oM (Rect.unit (s := S256x4096) ![0, 0] S256x4096.size inb_S256x4096_S256x4096_0_0).toLoadRect (View.loadsAt_vmem h_S256x4096)) k
/-- Write it. -/
def storeO (v : Vec F S256x4096 .f32) (k : KProg F) : KProg F :=
  .op (.store oM (Rect.unit (s := S256x4096) ![0, 0] S256x4096.size inb_S256x4096_S256x4096_0_0) v Finset.univ
    (View.stores_vmem_bits_univ h_S256x4096 rfl) (.inl rfl)) fun _ => k
/-- The first group's product. -/
def mulFirst (k : KProg F) : KProg F := opnds 0 fun w a => loadO fun _ => storeO (prodV w a) k
/-- A later group's product, added. -/
def mulNext (j : Fin 8) (k : KProg F) : KProg F :=
  opnds j fun w a => loadO fun o => loadO fun _ =>
    storeO (addf (shapeCast S256x4096 o shapeCasts_S256x4096_S256x4096) (prodV w a)) k

/-- The offset of part `p` of a group after the first. -/
def offN (j : Fin 7) (p : Fin 4) : Fin 31 := ⟨4 * j.val + 3 + p.val, by have := j.isLt; have := p.isLt; omega⟩
/-- The offset of a part of the first group after its own block. -/
def off0 (p : Fin 3) : Fin 31 := ⟨p.val, by have := p.isLt; omega⟩

/-- The first group. -/
def group0 (c : Dev nD) (k : KProg F) : KProg F :=
  seqFin 4 (wStart c 1) <| ownStep c <| seqFin 3 (fun p => recvStep c (off0 p) p.succ) <| seqFin 4 (wWait c 0) <| mulFirst k
/-- A later group's blocks and product. -/
def groupTail (c : Dev nD) (j : Fin 7) (k : KProg F) : KProg F :=
  seqFin 4 (fun p => recvStep c (offN j p) p) <| seqFin 4 (wWait c j.succ) <| mulNext j.succ k
/-- A group between the first and the last. -/
def groupMid (c : Dev nD) (j : Fin 6) (k : KProg F) : KProg F :=
  seqFin 4 (wStart c j.succ.succ) <| groupTail c j.castSucc k

/-- The body. -/
def bodyC (c : Dev nD) : KProg F :=
  seqFin 4 (wStart c 0) <| seqFin 31 (sigStep c) <| barStep <| seqFin 31 (sendStep c) <| group0 c <|
    seqFin 6 (groupMid c) <| groupTail c 6 <| seqFin 31 (sentStep c) <| .ret ⟨⟩

set_option maxRecDepth 65536 in
/-- The printed body is the steps in order, from the device's own number on. -/
theorem body_eq : bodyAt0 (F := F) t0_0 = .op .deviceId fun c => bodyC c := by
  chain_rfl

end Cert.KernelIdeal.A2A
-- ==== Proof.ISteps.lean ====
/-
Families of steps: what a step makes of the resources it is given, steps one after another, and a family of steps
run in order.
-/
module

public import proofs.«01_k».proof.Proof.IProg
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the pipeline library's rounds, the exchange's (31 duties), the local copies' counters -/

abbrev UB : Type := URounds (GSem nD τ sig) (Fin 31)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-! ## Steps -/

/-- The step `s`, before any program `k`, runs given `P` and leaves `P'`. -/
def Tr (c : Dev nD) (P P' : sProp 𝕄) (s : KProg F → KProg F) : Prop :=
  ∀ (k : KProg F) (Q : PUnit → sProp 𝕄),
    iprop(P ∗ (P' -∗ wp frame (wpE (defs₀ (F := F)) 𝒱₀ (c : Thread nD τ) none) Set.univ k Q))
      ⊢ wp frame (wpE (defs₀ (F := F)) 𝒱₀ (c : Thread nD τ) none) Set.univ (s k) Q

variable {c : Dev nD}

/-- A step may be given more and leave less. -/
theorem Tr.conseq {P P' R R' : sProp 𝕄} {s : KProg F → KProg F} (h : Tr c P P' s) (hP : R ⊢ P) (hP' : P' ⊢ R') : Tr c R R' s := by
  intro k Q
  iintro ⟨HR, Hk⟩
  iapply (h k Q)
  isplitl [HR]; · iapply hP; iexact HR
  iintro HP'
  iapply Hk
  iapply hP'; iexact HP'

/-- A step leaves alone what it is not given. -/
theorem Tr.frame {P P' : sProp 𝕄} {s : KProg F → KProg F} (h : Tr c P P' s) (R : sProp 𝕄) : Tr c iprop(P ∗ R) iprop(P' ∗ R) s := by
  intro k Q
  iintro ⟨⟨HP, HR⟩, Hk⟩
  iapply (h k Q)
  isplitl [HP]; · iexact HP
  iintro HP'
  iapply Hk
  isplitl [HP'] <;> iassumption

/-- One step after another. -/
theorem Tr.seq {P P' P'' : sProp 𝕄} {s s' : KProg F → KProg F} (h : Tr c P P' s) (h' : Tr c P' P'' s') : Tr c P P'' (fun k => s (s' k)) := by
  intro k Q
  iintro ⟨HP, Hk⟩
  iapply (h (s' k) Q)
  isplitl [HP]; · iexact HP
  iintro HP'
  iapply (h' k Q)
  isplitl [HP'] <;> iassumption

/-- No step. -/
theorem Tr.nil (P : sProp 𝕄) : Tr c P P (fun k => k) := by
  intro k Q
  iintro ⟨HP, Hk⟩
  iapply Hk; iexact HP

/-- A big separating conjunction over `Fin (n + 1)`, the first conjunct apart, -/
theorem bigSep_succ {M : Type} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]
  rfl

/-- and the last. -/
theorem bigSep_castSucc {n : ℕ} (Φ : Fin (n + 1) → sProp 𝕄) :
    bigSep Finset.univ Φ = iprop((bigSep Finset.univ fun i : Fin n => Φ i.castSucc) ∗ Φ (Fin.last n)) := by
  have h : bigSep Finset.univ Φ = iprop(Φ (Fin.last n) ∗ (bigSep Finset.univ fun i : Fin n => Φ i.castSucc)) := by
    rw [Fin.univ_castSuccEmb, Finset.cons_eq_insert, bigSep_insert (by simp), bigSep_map]
    rfl
  rw [h]
  exact BI.Entails.antisymm (sep_comm (PROP := sProp 𝕄)).1 (sep_comm (PROP := sProp 𝕄)).1

/-- The steps of a family in order: step `i` makes `Ψ i` of `Φ i`, and carries `R i` to `R (i + 1)`. -/
theorem Tr.loop : ∀ (n : ℕ) (s : Fin n → KProg F → KProg F) (Φ Ψ : Fin n → sProp 𝕄) (R : ℕ → sProp 𝕄),
    (∀ i : Fin n, Tr c iprop(Φ i ∗ R i.val) iprop(Ψ i ∗ R (i.val + 1)) (s i)) →
    Tr c iprop((bigSep Finset.univ Φ) ∗ R 0) iprop((bigSep Finset.univ Ψ) ∗ R n) (seqFin n s)
  | 0, s, Φ, Ψ, R, h => by
      show Tr c _ _ fun k => k
      rw [Finset.univ_eq_empty, bigSep_empty, bigSep_empty]
      exact Tr.nil _
  | n + 1, s, Φ, Ψ, R, h => by
      have ih := Tr.loop n (fun i => s i.succ) (fun i => Φ i.succ) (fun i => Ψ i.succ) (fun i => R (i + 1)) (fun i => h i.succ)
      show Tr c _ _ fun k => s 0 (seqFin n (fun i => s i.succ) k)
      rw [bigSep_succ Φ, bigSep_succ Ψ]
      have h00 : Tr c iprop(Φ 0 ∗ R 0) iprop(Ψ 0 ∗ R (0 + 1)) (s 0) := h 0
      have h0 := h00.frame (bigSep Finset.univ fun i : Fin n => Φ i.succ)
      refine (Tr.seq h0 (Tr.conseq (ih.frame (Ψ 0)) ?_ (BI.Entails.refl _))).conseq ?_ ?_
      · iintro ⟨⟨H1, H2⟩, H3⟩
        isplitl [H2 H3]
        · isplitl [H3]; · iexact H3
          iexact H2
        iexact H1
      · iintro ⟨⟨H1, H2⟩, H3⟩
        isplitl [H1 H3]
        · isplitl [H1]; · iexact H1
          iexact H3
        iexact H2
      · iintro ⟨⟨H1, H2⟩, H3⟩
        isplitl [H1 H3]
        · isplitl [H3]; · iexact H3
          iexact H1
        iexact H2

/-- As `Tr.loop`, one resource carried unchanged. -/
theorem Tr.loop' (n : ℕ) (s : Fin n → KProg F → KProg F) (Φ Ψ : Fin n → sProp 𝕄) (R : sProp 𝕄)
    (h : ∀ i : Fin n, Tr c iprop(Φ i ∗ R) iprop(Ψ i ∗ R) (s i)) :
    Tr c iprop((bigSep Finset.univ Φ) ∗ R) iprop((bigSep Finset.univ Ψ) ∗ R) (seqFin n s) :=
  Tr.loop n s Φ Ψ (fun _ => R) h

/-! ## A buffer in pieces -/

/-- A buffer held whole is held piece by piece, the pieces told apart by a classification of its elements; -/
theorem pts_pieces {ℓ : Loc nD τ sig} {B : Type} [Fintype B] [DecidableEq B] (cls : Idx ℓ → B) (f : Buf (Elt F) ℓ) :
    (ℓ ↦{fullShare} f : sProp 𝕄) = bigSep Finset.univ fun b => ℓ ↦[Finset.univ.filter (cls · = b)]{fullShare} f :=
  Ring.pointsTo_blocks (fun b => Finset.univ.filter (cls · = b)) (fun b b' h => Finset.disjoint_left.mpr fun i hi hi' =>
      h ((Finset.mem_filter.mp hi).2.symm.trans (Finset.mem_filter.mp hi').2))
    (Finset.eq_univ_iff_forall.mpr fun i => Finset.mem_biUnion.mpr ⟨cls i, Finset.mem_univ _, Finset.mem_filter.mpr ⟨Finset.mem_univ _, rfl⟩⟩) f

/-- and pieces at contents of their own are the buffer whole at some contents. -/
theorem pts_join {ℓ : Loc nD τ sig} {B : Type} [Fintype B] [DecidableEq B] (cls : Idx ℓ → B) (f₀ : Buf (Elt F) ℓ) :
    (bigSep Finset.univ fun b => iprop(∃ f, ℓ ↦[Finset.univ.filter (cls · = b)]{fullShare} f)) ⊢ (iprop(∃ f, ℓ ↦{fullShare} f) : sProp 𝕄) :=
  Ring.pointsTo_blocks_join_exists (fun b => Finset.univ.filter (cls · = b)) (fun b b' h => Finset.disjoint_left.mpr fun i hi hi' =>
      h ((Finset.mem_filter.mp hi).2.symm.trans (Finset.mem_filter.mp hi').2))
    (Finset.eq_univ_iff_forall.mpr fun i => Finset.mem_biUnion.mpr ⟨cls i, Finset.mem_univ _, Finset.mem_filter.mpr ⟨Finset.mem_univ _, rfl⟩⟩) f₀

/-- What a view's write leaves on the view's elements: any contents the view reads as written. -/
theorem write_on_set {κ : Kind} {sp : Space} {s : Shape} {e : EltTy} (v : View sig κ sp s e) (f G : v.ty.Contents (Elt F)) (w : s.Idx → Elt F e)
    (h : v.read (Elt F) G = w) : ∀ i ∈ v.set, v.write (Elt F) f w Finset.univ i = G i := by
  intro i hi
  rw [← h, View.write_read_eq_piecewise, View.setOn_univ, Finset.piecewise_eq_of_mem _ _ _ hi]

end Cert.KernelIdeal.A2A
-- ==== Proof.IData.lean ====
/-
What the kernel's buffers hold, and which of their elements each of the kernel's memrefs names.
-/
module

public import proofs.«01_k».proof.Proof.ISteps

@[expose] public section

noncomputable section

namespace Cert.KernelIdeal.A2A

open Cert.KernelIdeal Cert.KernelIdeal.Gen
open Idealize.ShloMosaic
open Idealize.ShloMosaic.TcCoe

variable {F : FTy → Type} [FloatOps F]

/-! ## Devices -/

/-- The device at offset `-(d + 1)`. -/
def src (c : Dev nD) (d : Fin 31) : Dev nD := ⟨(c.val + (31 - d.val)) % 32, Nat.mod_lt _ (by decide)⟩

theorem peer_val (c : Dev nD) (d : Fin 31) : (peer c d).val = (c.val + (1 + d.val)) % 32 := peerN_eq c d
theorem src_val (c : Dev nD) (d : Fin 31) : (src c d).val = (c.val + (31 - d.val)) % 32 := rfl
theorem dev_lt (c : Dev nD) : c.val < 32 := c.isLt

/-- The peer at an offset has this device at the opposite offset. -/
theorem peer_peer_rev (c : Dev nD) (d : Fin 31) : peer (peer c d) d.rev = c := by
  apply Fin.ext
  rw [peer_val, peer_val, Fin.val_rev]
  have := dev_lt c; have := d.isLt; omega
theorem src_peer (c : Dev nD) (d : Fin 31) : src (peer c d) d = c := by
  apply Fin.ext
  rw [src_val, peer_val]
  have := dev_lt c; have := d.isLt; omega
theorem peer_src (c : Dev nD) (d : Fin 31) : peer (src c d) d = c := by
  apply Fin.ext
  rw [peer_val, src_val]
  have := dev_lt c; have := d.isLt; omega
theorem peer_inj {c : Dev nD} {d d' : Fin 31} (h : peer c d = peer c d') : d = d' := by
  have h' := congrArg Fin.val h
  rw [peer_val, peer_val] at h'
  have := dev_lt c; have := d.isLt; have := d'.isLt
  exact Fin.ext (by omega)

/-! ## The offsets -/

theorem k0_off1_eq : ∀ (c : Dev nD) (g : Fin 32), k0_off1 c (BitVec.ofNat 32 g.val) = ![256 * ((c.val + (32 - g.val)) % 32), 0] := by
  decide +kernel
theorem k0_off3_eq : ∀ (c : Dev nD) (d : Fin 31), k0_off3 c (BitVec.ofNat 32 (1 + d.val)) = ![256 * ((c.val + (1 + d.val)) % 32), 0] := by
  decide +kernel
theorem k0_off5_eq : ∀ (c : Dev nD) (d : Fin 31), k0_off5 c (BitVec.ofNat 32 (1 + d.val)) = ![256 * ((c.val + (31 - d.val)) % 32), 0] := by
  decide +kernel
theorem k0_off6_eq : ∀ (c : Dev nD) (d : Fin 31), k0_off6 c (BitVec.ofNat 32 (1 + d.val)) = ![256 * ((c.val + (31 - d.val)) % 32), 0] := by
  decide +kernel

/-! ## Indices -/

/-- An index of a matrix. -/
def mk2 {n m : ℕ} (a : Fin n) (b : Fin m) : (⟨2, ![n, m]⟩ : Shape).Idx
  | ⟨0, _⟩ => a
  | ⟨1, _⟩ => b

theorem idx2_ext {n m : ℕ} {i j : (⟨2, ![n, m]⟩ : Shape).Idx} (h0 : (i 0).val = (j 0).val) (h1 : (i 1).val = (j 1).val) : i = j := by
  funext a
  match a with
  | ⟨0, _⟩ => exact Fin.ext h0
  | ⟨1, _⟩ => exact Fin.ext h1
theorem idx3_ext {n m p : ℕ} {i j : (⟨3, ![n, m, p]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-! ## Pieces -/

/-- The offset at which device `c` meets row block `i / 256` of `x`: zero its own, `d + 1` the peer's there. -/
def xCls (c : Dev nD) (i : S8192x256.Idx) : Fin 32 := ⟨((i 0).val / 256 + (32 - c.val)) % 32, Nat.mod_lt _ (by decide)⟩
/-- The offset, counted down, at which it meets a row block of what it receives. -/
def bCls (c : Dev nD) (i : S8192x256.Idx) : Fin 32 := ⟨(c.val + (32 - (i 0).val / 256)) % 32, Nat.mod_lt _ (by decide)⟩
/-- When it meets a row block of the weights: the group and the part. -/
def wCls (c : Dev nD) (i : S8192x4096.Idx) : Fin 8 × Fin 4 :=
  (⟨(c.val + (32 - (i 0).val / 256)) % 32 / 4, by omega⟩, ⟨(c.val + (32 - (i 0).val / 256)) % 32 % 4, by omega⟩)
/-- The part of the left operand a column is in. -/
def aCls (i : S256x1024.Idx) : Fin 4 := ⟨(i 1).val / 256, by have : (i 1).val < 1024 := (i 1).isLt; omega⟩
/-- The slot and the part of the weights' buffer an element is in. -/
def gCls (i : S2x1024x4096.Idx) : Fin 2 × Fin 4 :=
  (⟨(i 0).val, (i 0).isLt⟩, ⟨(i 1).val / 256, by have : (i 1).val < 1024 := (i 1).isLt; omega⟩)

theorem row_lt (i : S8192x256.Idx) : (i 0).val < 8192 := (i 0).isLt
theorem wrow_lt (i : S8192x4096.Idx) : (i 0).val < 8192 := (i 0).isLt

/-- Membership in a block of rows. -/
theorem mem_rows {n m : ℕ} {off : Fin 2 → ℕ} (q : ℕ) (h : off = ![256 * q, 0]) (inb) (i : (⟨2, ![n, m]⟩ : Shape).Idx) :
    i ∈ (Rect.unit (s := ⟨2, ![n, m]⟩) off (![256, m]) inb).set ↔ 256 * q ≤ (i 0).val ∧ (i 0).val < 256 * q + 256 := by
  subst h
  rw [Rect.mem_set_unit]
  have h1 : (i 1).val < m := (i 1).isLt
  constructor
  · intro h
    exact h 0
  · intro h a
    match a with
    | ⟨0, _⟩ => exact h
    | ⟨1, _⟩ => exact ⟨Nat.zero_le _, by show (i 1).val < 0 + m; omega⟩

theorem set_xSrc (c : Dev nD) (d : Fin 31) : (xSrc c d).view.set = Finset.univ.filter (xCls c · = d.succ) := by
  refine (View.set_slice_whole _ _).trans ?_
  ext i
  refine (mem_rows (n := 8192) (m := 256) _ (k0_off3_eq c d) _ i).trans ?_
  rw [Finset.mem_filter, Fin.ext_iff]
  have hi := row_lt i; have := dev_lt c; have := d.isLt
  constructor
  · rintro ⟨h1, h2⟩
    refine ⟨Finset.mem_univ _, ?_⟩
    show ((i 0).val / 256 + (32 - c.val)) % 32 = d.val + 1
    omega
  · rintro ⟨-, h⟩
    have h' : ((i 0).val / 256 + (32 - c.val)) % 32 = d.val + 1 := h
    omega

/-- The elements a peer's copy fills, told by the sender. -/
theorem set_bufMine (c c' : Dev nD) : (bufMine c).view.set = Finset.univ.filter (bCls c' · = ⟨(c'.val + (32 - c.val)) % 32, Nat.mod_lt _ (by decide)⟩) := by
  refine (View.set_slice_whole _ _).trans ?_
  ext i
  refine (mem_rows (n := 8192) (m := 256) _ (k0_off2_eq c) _ i).trans ?_
  rw [Finset.mem_filter, Fin.ext_iff]
  have hi := row_lt i; have := dev_lt c; have := dev_lt c'
  constructor
  · rintro ⟨h1, h2⟩
    refine ⟨Finset.mem_univ _, ?_⟩
    show (c'.val + (32 - (i 0).val / 256)) % 32 = (c'.val + (32 - c.val)) % 32
    omega
  · rintro ⟨-, h⟩
    have h' : (c'.val + (32 - (i 0).val / 256)) % 32 = (c'.val + (32 - c.val)) % 32 := h
    omega

theorem set_bufFrom (c : Dev nD) (d : Fin 31) : (bufFrom c d).view.set = Finset.univ.filter (bCls c · = d.succ) := by
  refine (View.set_slice_whole _ _).trans ?_
  ext i
  refine (mem_rows (n := 8192) (m := 256) _ (k0_off5_eq c d) _ i).trans ?_
  rw [Finset.mem_filter, Fin.ext_iff]
  have hi := row_lt i; have := dev_lt c; have := d.isLt
  constructor
  · rintro ⟨h1, h2⟩
    refine ⟨Finset.mem_univ _, ?_⟩
    show (c.val + (32 - (i 0).val / 256)) % 32 = d.val + 1
    omega
  · rintro ⟨-, h⟩
    have h' : (c.val + (32 - (i 0).val / 256)) % 32 = d.val + 1 := h
    omega

/-- A sender's rows in this device's buffer are the rows this device looks for it in. -/
theorem set_bufMine_src (c : Dev nD) (d : Fin 31) : (bufMine (src c d)).view.set = (bufFrom c d).view.set := by
  rw [set_bufMine _ c, set_bufFrom]
  refine congrArg (fun b => Finset.univ.filter (bCls c · = b)) (Fin.ext ?_)
  show (c.val + (32 - (c.val + (31 - d.val)) % 32)) % 32 = d.val + 1
  have := dev_lt c; have := d.isLt; omega

/-- The rows of a peer's copy, told by the offset of the peer. -/
theorem set_bufMine_peer (c : Dev nD) (d : Fin 31) : (bufMine (peer c d)).view.set = Finset.univ.filter (bCls c · = d.rev.succ) := by
  rw [set_bufMine _ c]
  refine congrArg (fun b => Finset.univ.filter (bCls c · = b)) (Fin.ext ?_)
  show (c.val + (32 - (peer c d).val)) % 32 = d.rev.val + 1
  rw [peer_val, Fin.val_rev]
  have := dev_lt c; have := d.isLt; omega

theorem set_wSrc (c : Dev nD) (j : Fin 8) (p : Fin 4) : (wSrc c j p).view.set = Finset.univ.filter (wCls c · = (j, p)) := by
  refine (View.set_slice_whole _ _).trans ?_
  ext i
  refine (mem_rows (n := 8192) (m := 4096) _ (k0_off1_eq c (blkN j p)) _ i).trans ?_
  rw [Finset.mem_filter, Prod.ext_iff, Fin.ext_iff, Fin.ext_iff]
  have hi := wrow_lt i; have := dev_lt c; have := j.isLt; have := p.isLt
  have hb : (blkN j p).val = 4 * j.val + p.val := rfl
  constructor
  · rintro ⟨h1, h2⟩
    refine ⟨Finset.mem_univ _, ?_⟩
    show (c.val + (32 - (i 0).val / 256)) % 32 / 4 = j.val ∧ (c.val + (32 - (i 0).val / 256)) % 32 % 4 = p.val
    omega
  · rintro ⟨-, h⟩
    have h' : (c.val + (32 - (i 0).val / 256)) % 32 / 4 = j.val ∧ (c.val + (32 - (i 0).val / 256)) % 32 % 4 = p.val := h
    omega

theorem set_wDst (j : Fin 8) (p : Fin 4) : (wDst j p).view.set = Finset.univ.filter (gCls · = (⟨j.val % 2, by omega⟩, p)) := by
  refine (View.set_reshape _ _).trans ((View.set_slice_whole _ _).trans ?_)
  ext i
  refine Rect.mem_set_unit.trans ?_
  rw [Finset.mem_filter, Prod.ext_iff, Fin.ext_iff, Fin.ext_iff]
  have h0 : (i 0).val < 2 := (i 0).isLt
  have h1 : (i 1).val < 1024 := (i 1).isLt
  have h2 : (i 2).val < 4096 := (i 2).isLt
  have := p.isLt
  constructor
  · intro h
    have e0 : j.val % 2 ≤ (i 0).val ∧ (i 0).val < j.val % 2 + 1 := h 0
    have e1 : p.val * 256 ≤ (i 1).val ∧ (i 1).val < p.val * 256 + 256 := h 1
    refine ⟨Finset.mem_univ _, ?_⟩
    show (i 0).val = j.val % 2 ∧ (i 1).val / 256 = p.val
    omega
  · rintro ⟨-, h⟩
    have h' : (i 0).val = j.val % 2 ∧ (i 1).val / 256 = p.val := h
    intro a
    match a with
    | ⟨0, _⟩ => show j.val % 2 ≤ (i 0).val ∧ (i 0).val < j.val % 2 + 1; omega
    | ⟨1, _⟩ => show p.val * 256 ≤ (i 1).val ∧ (i 1).val < p.val * 256 + 256; omega
    | ⟨2, _⟩ => show 0 ≤ (i 2).val ∧ (i 2).val < 0 + 4096; omega

/-- The memref of part `p` of the left operand. -/
abbrev aRect (p : Fin 4) : Rect S256x1024 := Rect.unit (s := S256x1024) ![0, p.val * 256] S256x256.size (inb_a p)

theorem set_aRect (p : Fin 4) : (aRect p).set = Finset.univ.filter (aCls · = p) := by
  ext i
  refine Rect.mem_set_unit.trans ?_
  rw [Finset.mem_filter, Fin.ext_iff]
  have h0 : (i 0).val < 256 := (i 0).isLt
  have h1 : (i 1).val < 1024 := (i 1).isLt
  have := p.isLt
  constructor
  · intro h
    have e1 : p.val * 256 ≤ (i 1).val ∧ (i 1).val < p.val * 256 + 256 := h 1
    refine ⟨Finset.mem_univ _, ?_⟩
    show (i 1).val / 256 = p.val
    omega
  · rintro ⟨-, h⟩
    have h' : (i 1).val / 256 = p.val := h
    intro a
    match a with
    | ⟨0, _⟩ => show 0 ≤ (i 0).val ∧ (i 0).val < 0 + 256; omega
    | ⟨1, _⟩ => show p.val * 256 ≤ (i 1).val ∧ (i 1).val < p.val * 256 + 256; omega

/-! ## Contents -/

variable (X : Dev nD → Vec F S8192x256 .bf16) (Wv : Dev nD → Vec F S8192x4096 .f32)

/-- What device `c` receives: in the rows of each sender, the sender's rows for `c`. -/
def Bv (c : Dev nD) : Vec F S8192x256 .bf16 := fun i =>
  X ⟨(i 0).val / 256, by have := row_lt i; show _ < 32; omega⟩
    (mk2 ⟨256 * c.val + (i 0).val % 256, by have := dev_lt c; omega⟩ (i 1))

/-- The rows of block `(j, p)`: those of the device at offset `-(4 j + p)`. -/
def blkD (c : Dev nD) (j : Fin 8) (p : ℕ) : Dev nD := ⟨(c.val + (32 - (4 * j.val + p))) % 32, Nat.mod_lt _ (by decide)⟩

/-- The left operand of group `j`: four senders' rows side by side. -/
def Av (c : Dev nD) (j : Fin 8) : Vec F S256x1024 .bf16 := fun i =>
  X (blkD c j ((i 1).val / 256))
    (mk2 ⟨256 * c.val + (i 0).val, by have := dev_lt c; have : (i 0).val < 256 := (i 0).isLt; omega⟩
      ⟨(i 1).val % 256, Nat.mod_lt _ (by decide)⟩)

/-- The weights of group `j`: the same four blocks of rows, in either slot. -/
def Gv (c : Dev nD) (j : Fin 8) : Vec F S2x1024x4096 .f32 := fun i =>
  Wv c (mk2 ⟨256 * (blkD c j ((i 1).val / 256)).val + (i 1).val % 256,
    by have := dev_lt (blkD c j ((i 1).val / 256)); omega⟩ (i 2))

/-- As read: one slot. -/
def GvL (c : Dev nD) (j : Fin 8) : Vec F S1x1024x4096 .f32 := fun i =>
  Wv c (mk2 ⟨256 * (blkD c j ((i 1).val / 256)).val + (i 1).val % 256,
    by have := dev_lt (blkD c j ((i 1).val / 256)); omega⟩ (i 2))

/-- The result after group `n`. -/
def Ov (c : Dev nD) : ℕ → Vec F S256x4096 .f32
  | 0 => prodV (GvL Wv c 0) (Av X c 0)
  | n + 1 => addf (Ov c n) (prodV (GvL Wv c ⟨(n + 1) % 8, Nat.mod_lt _ (by decide)⟩) (Av X c ⟨(n + 1) % 8, Nat.mod_lt _ (by decide)⟩))

/-! ## Reading them -/

/-- An element of a block of rows. -/
theorem emb_rows {n m : ℕ} {off : Fin 2 → ℕ} (q : ℕ) (h : off = ![256 * q, 0]) (inb)
    (i : (⟨2, ![256, m]⟩ : Shape).Idx) (hq : 256 * q + 256 ≤ n) :
    (Rect.unit (s := ⟨2, ![n, m]⟩) off (![256, m]) inb).emb i
      = mk2 ⟨256 * q + (i 0).val, by have : (i 0).val < 256 := (i 0).isLt; omega⟩ (i 1) := by
  subst h
  refine idx2_ext ?_ ?_
  · show 256 * q + 1 * (i 0).val = 256 * q + (i 0).val; omega
  · show 0 + 1 * (i 1).val = (i 1).val; omega

/-- A view of a block of rows of a whole buffer reads the contents there. -/
theorem read_xSrc (c : Dev nD) (d : Fin 31) (f : Vec F S8192x256 .bf16) (i : S256x256.Idx) :
    (xSrc c d).view.read (Elt F) f i = f (mk2 ⟨256 * (peer c d).val + (i 0).val, by
      have := dev_lt (peer c d); have : (i 0).val < 256 := (i 0).isLt; omega⟩ (i 1)) := by
  have hd := dev_lt (peer c d)
  refine congrArg f (emb_rows (n := 8192) (m := 256) (peer c d).val ?_ _ i (by omega))
  rw [k0_off3_eq, peer_val]

theorem read_bufMine (c : Dev nD) (f : Vec F S8192x256 .bf16) (i : S256x256.Idx) :
    (bufMine c).view.read (Elt F) f i = f (mk2 ⟨256 * c.val + (i 0).val, by
      have := dev_lt c; have : (i 0).val < 256 := (i 0).isLt; omega⟩ (i 1)) := by
  have hd := dev_lt c
  exact congrArg f (emb_rows (n := 8192) (m := 256) c.val (k0_off2_eq c) _ i (by omega))

theorem read_off6 (c : Dev nD) (d : Fin 31) (f : Vec F S8192x256 .bf16) (i : S256x256.Idx) :
    bufM.view.readAt (Elt F) (Rect.unit (s := S8192x256) (k0_off6 c (BitVec.ofNat 32 (1 + d.val))) S256x256.size (k0_off6_inb c d)).toLoadRect f i
      = f (mk2 ⟨256 * (src c d).val + (i 0).val, by
      have := dev_lt (src c d); have : (i 0).val < 256 := (i 0).isLt; omega⟩ (i 1)) := by
  have hd := dev_lt (src c d)
  refine congrArg f (emb_rows (n := 8192) (m := 256) (src c d).val ?_ _ i (by omega))
  rw [k0_off6_eq, src_val]

theorem read_off4 (c : Dev nD) (f : Vec F S8192x256 .bf16) (i : S256x256.Idx) :
    xM.view.readAt (Elt F) (Rect.unit (s := S8192x256) (k0_off4 c) S256x256.size (k0_off4_inb c)).toLoadRect f i
      = f (mk2 ⟨256 * c.val + (i 0).val, by
      have := dev_lt c; have : (i 0).val < 256 := (i 0).isLt; omega⟩ (i 1)) := by
  have hd := dev_lt c
  exact congrArg f (emb_rows (n := 8192) (m := 256) c.val (k0_off4_eq c) _ i (by omega))

theorem read_wSrc (c : Dev nD) (j : Fin 8) (p : Fin 4) (f : Vec F S8192x4096 .f32) (i : S256x4096.Idx) :
    (wSrc c j p).view.read (Elt F) f i = f (mk2 ⟨256 * (blkD c j p.val).val + (i 0).val, by
      have := dev_lt (blkD c j p.val); have : (i 0).val < 256 := (i 0).isLt; omega⟩ (i 1)) := by
  have hd := dev_lt (blkD c j p.val)
  exact congrArg f (emb_rows (n := 8192) (m := 4096) (blkD c j p.val).val (k0_off1_eq c (blkN j p)) _ i (by omega))

/-- What a sender's copy leaves at the receiver: the receiver's own view of the contents. -/
theorem read_B (c : Dev nD) (d : Fin 31) :
    (bufMine c).view.read (Elt F) (Bv X (peer c d)) = (xSrc c d).view.read (Elt F) (X c) := by
  funext i
  rw [read_bufMine, read_xSrc]
  have h0 : (i 0).val < 256 := (i 0).isLt
  have := dev_lt c
  unfold Bv
  have hd : (⟨(256 * c.val + (i 0).val) / 256, by show _ < 32; omega⟩ : Dev nD) = c := Fin.ext (by show (256 * c.val + (i 0).val) / 256 = c.val; omega)
  have hx : ∀ (s s' : Dev nD) (u u' : S8192x256.Idx), s = s' → u = u' → X s u = X s' u' := by rintro s _ u _ rfl rfl; rfl
  refine hx _ _ _ _ hd (idx2_ext ?_ rfl)
  show 256 * (peer c d).val + (256 * c.val + (i 0).val) % 256 = 256 * (peer c d).val + (i 0).val
  omega

/-- What a copy of the weights leaves: the group's contents. -/
theorem read_G (c : Dev nD) (j : Fin 8) (p : Fin 4) :
    (wDst j p).view.read (Elt F) (Gv Wv c j) = (wSrc c j p).view.read (Elt F) (Wv c) := by
  funext i
  rw [read_wSrc]
  have h0 : (i 0).val < 256 := (i 0).isLt
  have hp := p.isLt
  have he : (wDst j p).view.read (Elt F) (Gv Wv c j) i
      = Gv Wv c j ((Rect.unit (s := S2x1024x4096) ![j.val % 2, p.val * 256, 0] S1x256x4096.size (inb_wg j p)).emb
          (Fin.cons ⟨0, Nat.one_pos⟩ i)) :=
    congrArg (fun u => Gv Wv c j ((Rect.unit (s := S2x1024x4096) ![j.val % 2, p.val * 256, 0] S1x256x4096.size (inb_wg j p)).emb u))
      (Shape.reshapeEquiv_cons_one (d := ![256, 4096]) _ i)
  refine he.trans (congrArg (Wv c) (idx2_ext ?_ ?_))
  · have hq : (p.val * 256 + 1 * (i 0).val) / 256 = p.val := by omega
    have hr : (p.val * 256 + 1 * (i 0).val) % 256 = (i 0).val := by omega
    show 256 * (blkD c j ((p.val * 256 + 1 * (i 0).val) / 256)).val + (p.val * 256 + 1 * (i 0).val) % 256
      = 256 * (blkD c j p.val).val + (i 0).val
    rw [hq, hr]
  · show 0 + 1 * (i 1).val = (i 1).val
    omega

/-- The weights of a group, read from its slot. -/
theorem read_slot (c : Dev nD) (j : Fin 8) :
    wgM.view.readAt (Elt F) (Rect.unit (s := S2x1024x4096) ![j.val % 2, 0, 0] S1x1024x4096.size (inb_wslot j)).toLoadRect (Gv Wv c j)
      = GvL Wv c j := by
  funext i
  have hr : (0 + 1 * (i 1).val) = (i 1).val := by omega
  refine congrArg (Wv c) (idx2_ext ?_ ?_)
  · show 256 * (blkD c j ((0 + 1 * (i 1).val) / 256)).val + (0 + 1 * (i 1).val) % 256
      = 256 * (blkD c j ((i 1).val / 256)).val + (i 1).val % 256
    rw [hr]
  · show 0 + 1 * (i 2).val = (i 2).val
    omega

theorem X_congr {s s' : Dev nD} {u u' : S8192x256.Idx} (hs : s = s') (hu : u = u') : X s u = X s' u' := by subst hs hu; rfl

/-- A block received, as part `p` of its group's left operand. -/
theorem read_part (c : Dev nD) (j : Fin 8) (p : Fin 4) (d : Fin 31) (hd : d.val + 1 = 4 * j.val + p.val) :
    (aM.view.slice (aRect p)).read (Elt F) (Av X c j)
      = bufM.view.readAt (Elt F) (Rect.unit (s := S8192x256) (k0_off6 c (BitVec.ofNat 32 (1 + d.val))) S256x256.size (k0_off6_inb c d)).toLoadRect
          (Bv X c) := by
  funext i
  rw [read_off6]
  have h0 : (i 0).val < 256 := (i 0).isLt
  have h1 : (i 1).val < 256 := (i 1).isLt
  have hp := p.isLt
  have hc := dev_lt c
  have hs := dev_lt (src c d)
  refine X_congr X (Fin.ext ?_) (idx2_ext ?_ ?_)
  · show (c.val + (32 - (4 * j.val + (p.val * 256 + 1 * (i 1).val) / 256))) % 32 = (256 * (src c d).val + (i 0).val) / 256
    rw [src_val]
    omega
  · show 256 * c.val + (0 + 1 * (i 0).val) = 256 * c.val + (256 * (src c d).val + (i 0).val) % 256
    omega
  · show (p.val * 256 + 1 * (i 1).val) % 256 = (i 1).val
    omega

/-- The device's own block, as the first part. -/
theorem read_own (c : Dev nD) :
    (aM.view.slice (aRect 0)).read (Elt F) (Av X c 0)
      = xM.view.readAt (Elt F) (Rect.unit (s := S8192x256) (k0_off4 c) S256x256.size (k0_off4_inb c)).toLoadRect (X c) := by
  funext i
  rw [read_off4]
  have h0 : (i 0).val < 256 := (i 0).isLt
  have h1 : (i 1).val < 256 := (i 1).isLt
  have hc := dev_lt c
  refine X_congr X (Fin.ext ?_) (idx2_ext ?_ ?_)
  · show (c.val + (32 - (4 * 0 + (0 * 256 + 1 * (i 1).val) / 256))) % 32 = c.val
    omega
  · show 256 * c.val + (0 + 1 * (i 0).val) = 256 * c.val + (i 0).val
    omega
  · show (0 * 256 + 1 * (i 1).val) % 256 = (i 1).val
    omega

/-- The elements a device reads of its own `x`. -/
theorem set_off4 (c : Dev nD) :
    (Rect.unit (s := S8192x256) (k0_off4 c) S256x256.size (k0_off4_inb c)).set = Finset.univ.filter (xCls c · = 0) := by
  ext i
  refine (mem_rows (n := 8192) (m := 256) _ (k0_off4_eq c) _ i).trans ?_
  rw [Finset.mem_filter, Fin.ext_iff]
  have hi := row_lt i; have := dev_lt c
  constructor
  · rintro ⟨h1, h2⟩
    refine ⟨Finset.mem_univ _, ?_⟩
    show ((i 0).val / 256 + (32 - c.val)) % 32 = 0
    omega
  · rintro ⟨-, h⟩
    have h' : ((i 0).val / 256 + (32 - c.val)) % 32 = 0 := h
    omega

/-- The elements read of a block received are those its wait names. -/
theorem set_off6 (c : Dev nD) (d : Fin 31) :
    (Rect.unit (s := S8192x256) (k0_off6 c (BitVec.ofNat 32 (1 + d.val))) S256x256.size (k0_off6_inb c d)).set
      = Finset.univ.filter (bCls c · = d.succ) := by
  rw [← set_bufFrom]
  refine Eq.trans ?_ (View.set_slice_whole _ _).symm
  ext i
  exact (mem_rows (n := 8192) (m := 256) _ (k0_off6_eq c d) _ i).trans (mem_rows (n := 8192) (m := 256) _ (k0_off5_eq c d) _ i).symm

/-- The elements of a slot of the weights' buffer. -/
theorem set_slot (j : Fin 8) :
    (Rect.unit (s := S2x1024x4096) ![j.val % 2, 0, 0] S1x1024x4096.size (inb_wslot j)).set
      = Finset.univ.filter (fun i : S2x1024x4096.Idx => (i 0).val = j.val % 2) := by
  ext i
  refine Rect.mem_set_unit.trans ?_
  rw [Finset.mem_filter]
  have h1 : (i 1).val < 1024 := (i 1).isLt
  have h2 : (i 2).val < 4096 := (i 2).isLt
  constructor
  · intro h
    have e0 : j.val % 2 ≤ (i 0).val ∧ (i 0).val < j.val % 2 + 1 := h 0
    exact ⟨Finset.mem_univ _, by omega⟩
  · rintro ⟨-, h⟩
    intro a
    match a with
    | ⟨0, _⟩ => show j.val % 2 ≤ (i 0).val ∧ (i 0).val < j.val % 2 + 1; omega
    | ⟨1, _⟩ => show 0 ≤ (i 1).val ∧ (i 1).val < 0 + 1024; omega
    | ⟨2, _⟩ => show 0 ≤ (i 2).val ∧ (i 2).val < 0 + 4096; omega

end Cert.KernelIdeal.A2A
-- ==== Proof.IValue.lean ====
/-
What the kernel's result holds over the extended reals: one sum of 8192 products.
-/
module

public import proofs.«01_k».proof.Proof.Blocks
public import proofs.«01_k».proof.Proof.IData
public import Idealize.ShloMosaic.Lib.Pointwise
public import Idealize.ShloMosaic.Lib.Layout

@[expose] public section

noncomputable section

namespace Cert.KernelIdeal.A2A

open Cert.KernelIdeal Cert.KernelIdeal.Gen
open Idealize.ShloMosaic
open Idealize.ShloMosaic.TcCoe
open Cert.A2AMath

/-- A group's product, at a row and a column. -/
theorem prodV_apply (w : Vec Ideal S1x1024x4096 .f32) (a : Vec Ideal S256x1024 .bf16) (i : S256x4096.Idx) :
    prodV w a i = ∑ k : Fin 1024, a (ix2 (i 0) k) * w (ix3 0 k (i 1)) := by
  unfold prodV
  simp only [pointwise]
  exact zero_add _

variable (X : (c : Dev nD) → Vec Ideal S8192x256 .bf16) (Wv : (c : Dev nD) → Vec Ideal S8192x4096 .f32)

/-- After group `n`, the result is the sum of the groups so far. -/
theorem Ov_apply (c : Dev nD) (i : S256x4096.Idx) (n : ℕ) (hn : n < 8) :
    Ov X Wv c n i = ∑ j ∈ Finset.range (n + 1),
      prodV (GvL Wv c ⟨j % 8, Nat.mod_lt _ (by decide)⟩) (Av X c ⟨j % 8, Nat.mod_lt _ (by decide)⟩) i := by
  induction n with
  | zero => rw [Finset.sum_range_one]; rfl
  | succ n ih => rw [Finset.sum_range_succ, ← ih (by omega)]; rfl

/-- The block of device `s` of a matrix whose columns the devices share out, at a row and a column. -/
theorem block_cols (x : Vec Ideal ⟨2, ![8192, 8192]⟩ .bf16) (s : Dev nD) (r : Fin 8192) (q : Fin 256) :
    Layout.block ⟨2, ![8192, 256]⟩ ⟨2, ![8192, 8192]⟩ 1 32 s x (by decide) (mk2 r q)
      = x (ix2 r ⟨256 * s.val + q.val, by have := dev_lt s; omega⟩) := by
  refine congrArg x (idx2_ext ?_ ?_)
  · rfl
  · exact congrArg (· + q.val) (Nat.mul_comm s.val 256)

/-- THE KERNEL'S RESULT on device `c`: rows `256 c …` of the product of the whole matrices. -/
theorem Ov_seven (c : Dev nD) (x : Vec Ideal ⟨2, ![8192, 8192]⟩ .bf16) (w : Vec Ideal S8192x4096 .f32)
    (hX : ∀ s, X s = Layout.block ⟨2, ![8192, 256]⟩ ⟨2, ![8192, 8192]⟩ 1 32 s x (by decide)) (hW : Wv c = w) (i : S256x4096.Idx) :
    Ov X Wv c 7 i = ∑ n : Fin 8192,
      x (ix2 ⟨256 * c.val + (i 0).val, by have := dev_lt c; have : (i 0).val < 256 := (i 0).isLt; omega⟩ n) * w (ix2 n (i 1)) := by
  rw [Ov_apply X Wv c i 7 (by decide), Finset.sum_range, ← sum_place c]
  refine Finset.sum_congr rfl fun j _ => ?_
  rw [prodV_apply]
  refine Finset.sum_congr rfl fun k _ => ?_
  have hj : (⟨j.val % 8, Nat.mod_lt _ (by decide)⟩ : Fin 8) = j := Fin.ext (Nat.mod_eq_of_lt j.isLt)
  rw [hj]
  refine congrArg₂ (· * ·) ?_ ?_
  · show X (blkD c j (k.val / 256)) (mk2 _ _) = _
    rw [hX, block_cols]
    rfl
  · show Wv c (mk2 _ _) = _
    rw [hW]
    exact congrArg w (idx2_ext rfl rfl)

end Cert.KernelIdeal.A2A

end
-- ==== Proof.Equation.lean ====
/-
The kernel's result and the reference's: each device holds its rows of one product of matrices.
-/
module

public import proofs.«01_k».proof.Proof.IValue
public import proofs.«01_k».proof.Proof.Gen.ReferenceIdeal

@[expose] public section

noncomputable section

namespace Cert.ReferenceIdeal.A2A

open Cert.ReferenceIdeal Cert.ReferenceIdeal.Gen
open Idealize.ShloMosaic

/-- The reference's product. -/
def prod (x : Vec Ideal S8192x8192 .bf16) (w : Vec Ideal S8192x4096 .f32) : FVec Ideal S8192x4096 .f32 :=
  Host.dotGeneral (φ₁ := .bf16) (φ₂ := .f32) dot_S8192x8192_S8192x4096_S8192x4096_1_0_0_1_n_n none x w

/-- It, at a row and a column. -/
theorem prod_apply (x : Vec Ideal S8192x8192 .bf16) (w : Vec Ideal S8192x4096 .f32) (i : S8192x4096.Idx) :
    prod x w i = ∑ n : Fin 8192, x (ix2 (i 0) n) * w (ix2 n (i 1)) := by
  unfold prod
  simp only [pointwise]
  exact zero_add _

/-- What the kernel leaves on device `c` is the device's block of rows of the reference's product. -/
theorem result_eq (X : (c : Dev Cert.KernelIdeal.nD) → Vec Ideal Cert.KernelIdeal.S8192x256 .bf16)
    (Wv : (c : Dev Cert.KernelIdeal.nD) → Vec Ideal S8192x4096 .f32)
    (x : Vec Ideal S8192x8192 .bf16) (w : Vec Ideal S8192x4096 .f32)
    (hX : ∀ s, X s = Layout.block ⟨2, ![8192, 256]⟩ ⟨2, ![8192, 8192]⟩ 1 32 s x (by decide)) (hW : ∀ s, Wv s = w)
    (c : Dev Cert.KernelIdeal.nD) :
    Cert.KernelIdeal.A2A.Ov X Wv c 7 = Layout.block ⟨2, ![256, 4096]⟩ ⟨2, ![8192, 4096]⟩ 0 32 c (prod x w) (by decide) := by
  funext i
  rw [Cert.KernelIdeal.A2A.Ov_seven X Wv c x w hX (hW c) i, Layout.block_apply, prod_apply]
  refine Finset.sum_congr rfl fun n _ => congrArg₂ (· * ·) (congrArg x ?_) (congrArg w ?_)
  · exact Cert.KernelIdeal.A2A.idx2_ext (congrArg (· + (i 0).val) (Nat.mul_comm 256 c.val)) rfl
  · exact Cert.KernelIdeal.A2A.idx2_ext rfl rfl

end Cert.ReferenceIdeal.A2A

end
-- ==== Proof.ISched.lean ====
/-
The exchange's protocol. Every device's barrier cell has one round of 31 units, the unit of a peer carrying the peer's
rows the owner will fill; every receive cell one round, the transfer carrying the rows it filled; every send cell one
round, carrying back the rows it read.
-/
module

public import proofs.«01_k».proof.Proof.IData

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ## The cells -/

theorem sendS_val : ∀ d : Fin 31, (sendS d).val = 2 + d.val := by decide +kernel
theorem recvS_val : ∀ d : Fin 31, (recvS d).val = 33 + d.val := by decide +kernel
theorem wS_val : ∀ (j : Fin 8) (p : Fin 4), (wS j p).val = 64 + 4 * (j.val % 2) + p.val := by decide +kernel

/-- The exchange's cells of one device: the barrier; the sends; the receives. -/
abbrev CK : Type := Unit ⊕ (Fin 31 ⊕ Fin 31)

/-- The semaphore of each. -/
def csem : CK → SemLoc sig
  | .inl _ => .reg barS
  | .inr (.inl d) => .dma (sendS d)
  | .inr (.inr d) => .dma (recvS d)

/-- Which of them a semaphore is. -/
def dec : SemLoc sig → Option CK
  | .reg _ => some (.inl ())
  | .dma s =>
      if h : 2 ≤ s.val ∧ s.val < 33 then some (.inr (.inl ⟨s.val - 2, by omega⟩))
      else if h' : 33 ≤ s.val ∧ s.val < 64 then some (.inr (.inr ⟨s.val - 33, by omega⟩))
      else none

theorem dec_csem (k : CK) : dec (csem k) = some k := by
  rcases k with u | d | d
  · rfl
  · have hd := d.isLt
    have hv := sendS_val d
    have h : 2 ≤ (sendS d).val ∧ (sendS d).val < 33 := by omega
    show dec (.dma (sendS d)) = _
    unfold dec
    dsimp only
    rw [dif_pos h]
    exact congrArg (fun x => some (Sum.inr (Sum.inl x))) (Fin.ext (by show (sendS d).val - 2 = d.val; omega))
  · have hd := d.isLt
    have hv := recvS_val d
    have h : ¬ (2 ≤ (recvS d).val ∧ (recvS d).val < 33) := by omega
    have h' : 33 ≤ (recvS d).val ∧ (recvS d).val < 64 := by omega
    show dec (.dma (recvS d)) = _
    unfold dec
    dsimp only
    rw [dif_neg h, dif_pos h']
    exact congrArg (fun x => some (Sum.inr (Sum.inr x))) (Fin.ext (by show (recvS d).val - 33 = d.val; omega))

theorem dec_low (s : DmaSem sig) (h : s.val < 2) : dec (.dma s) = none := by
  unfold dec
  dsimp only
  rw [dif_neg (by omega), dif_neg (by omega)]

theorem csem_injective : Function.Injective csem := fun k k' h =>
  Option.some.inj ((dec_csem k).symm.trans ((congrArg dec h).trans (dec_csem k')))

/-- A cell of a device. -/
abbrev kcell (ck : Dev nD × CK) : GSem nD τ sig := ((ck.1 : Thread nD τ), csem ck.2)

theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

abbrev barCell (c : Dev nD) : GSem nD τ sig := ((c : Thread nD τ), .reg barS)
abbrev sendCell (c : Dev nD) (d : Fin 31) : GSem nD τ sig := ((c : Thread nD τ), .dma (sendS d))
abbrev recvCell (c : Dev nD) (d : Fin 31) : GSem nD τ sig := ((c : Thread nD τ), .dma (recvS d))

/-- The credit of a block. -/
abbrev NB : ℕ := (bufMine 0).view.dmaCredit
theorem NB_pos : 0 < NB := View.dmaCredit_pos _ (by decide)

/-! ## Holdings -/

abbrev xPts (c : Dev nD) (S : Finset S8192x256.Idx) (f : Vec F S8192x256 .bf16) : sProp 𝕄 :=
  ((c : Thread nD τ).loc cc0_stg0_0) ↦[S]{fullShare} f
abbrev bPts (c : Dev nD) (S : Finset S8192x256.Idx) (f : Vec F S8192x256 .bf16) : sProp 𝕄 :=
  ((c : Thread nD τ).loc cc0_scratch0) ↦[S]{fullShare} f
abbrev aPts (c : Dev nD) (S : Finset S256x1024.Idx) (f : Vec F S256x1024 .bf16) : sProp 𝕄 :=
  ((c : Thread nD τ).loc cc0_scratch1) ↦[S]{fullShare} f
abbrev gPts (c : Dev nD) (S : Finset S2x1024x4096.Idx) (f : Vec F S2x1024x4096 .f32) : sProp 𝕄 :=
  ((c : Thread nD τ).loc cc0_scratch2) ↦[S]{fullShare} f
abbrev wPts (c : Dev nD) (S : Finset S8192x4096.Idx) (f : Vec F S8192x4096 .f32) : sProp 𝕄 :=
  ((c : Thread nD τ).loc main_arg1) ↦[S]{fullShare} f
abbrev oPts (c : Dev nD) (f : Vec F S256x4096 .f32) : sProp 𝕄 :=
  ((c : Thread nD τ).loc cc0_stg1_0) ↦{fullShare} f

/-! ## The schedule -/

variable (X : Dev nD → Vec F S8192x256 .bf16)

/-- What a peer's unit hands a device: the rows of the peer's buffer the device fills. -/
def barPay (c : Dev nD) (e : Fin 31) : sProp 𝕄 := iprop(∃ f, bPts (peer c e) (bufMine c).view.set f)
/-- What a transfer hands its receiver, -/
def recvPay (c : Dev nD) (d : Fin 31) : sProp 𝕄 := bPts c (bufFrom c d).view.set (Bv X c)
/-- and its sender. -/
def sendPay (c : Dev nD) (d : Fin 31) : sProp 𝕄 := xPts c (xSrc c d).view.set (X c)

def dutiesK : Option CK → Finset (Fin 31)
  | some (.inl _) => Finset.univ
  | some (.inr _) => {0}
  | none => ∅
def amountK : Option CK → ℕ
  | some (.inl _) => 1
  | _ => NB
def payK (c : Dev nD) (e : Fin 31) : Option CK → sProp 𝕄
  | some (.inl _) => barPay c e
  | some (.inr (.inl d)) => sendPay X c d
  | some (.inr (.inr d)) => recvPay X c d
  | none => iprop(emp)
def levelK : Option CK → ℕ
  | some (.inl _) => 1
  | some (.inr (.inl _)) => 0
  | some (.inr (.inr _)) => 2
  | none => 0

theorem amountK_pos (o : Option CK) : 0 < amountK o := by
  rcases o with _ | u | k
  · exact NB_pos
  · exact Nat.one_pos
  · exact NB_pos

/-- The exchange's schedule: one round. -/
def sched : Rounds.Schedule (GSem nD τ sig) (Fin 31) 𝕄 where
  duties g r := if r = 0 ∧ g.1.2 = .tc then dutiesK (dec g.2) else ∅
  unitless _ := False
  amount g _ _ := amountK (dec g.2)
  payload g _ e := payK X g.1.1 e (dec g.2)
  amount_pos g _ _ _ := amountK_pos _

instance sched_payload_storable (g : GSem nD τ sig) (r : ℕ) (e : Fin 31) :
    BI.Storable (upEmb : UEmb _ 𝕄) ((sched X).payload g r e) := by
  show BI.Storable upEmb (payK X g.1.1 e (dec g.2))
  rcases dec g.2 with _ | u | d | d
  · unfold payK; infer_instance
  · unfold payK barPay; infer_instance
  · unfold payK sendPay; infer_instance
  · unfold payK recvPay; infer_instance

theorem duties_k (c : Dev nD) (k : CK) : (sched X).duties (kcell (c, k)) 0 = dutiesK (some k) := by
  dsimp only [sched]
  rw [if_pos ⟨rfl, rfl⟩, dec_csem]
theorem amount_k (c : Dev nD) (k : CK) (r : ℕ) (e : Fin 31) : (sched X).amount (kcell (c, k)) r e = amountK (some k) :=
  congrArg amountK (dec_csem k)
theorem payload_k (c : Dev nD) (k : CK) (r : ℕ) (e : Fin 31) : (sched X).payload (kcell (c, k)) r e = payK X c e (some k) :=
  congrArg (payK X c e) (dec_csem k)
theorem duties_later (g : GSem nD τ sig) : ∀ r, 1 ≤ r → (sched X).duties g r = ∅ :=
  fun r hr => if_neg fun h => by omega

theorem mem_bar (c : Dev nD) (e : Fin 31) : e ∈ (sched X).duties (barCell c) 0 := by
  rw [show barCell c = kcell (c, .inl ()) from rfl, duties_k]; exact Finset.mem_univ _
theorem mem_x (c : Dev nD) (k : Fin 31 ⊕ Fin 31) : (0 : Fin 31) ∈ (sched X).duties (kcell (c, .inr k)) 0 := by
  rw [duties_k]; exact Finset.mem_singleton_self _

theorem expect_bar (c : Dev nD) : (sched X).expect (barCell c) 0 = 31 := by
  unfold Schedule.expect Schedule.amountOf
  rw [show barCell c = kcell (c, .inl ()) from rfl, duties_k, Finset.sum_congr rfl fun e _ => amount_k X c (.inl ()) 0 e]
  rfl
theorem expect_x (c : Dev nD) (k : Fin 31 ⊕ Fin 31) : (sched X).expect (kcell (c, .inr k)) 0 = NB := by
  unfold Schedule.expect Schedule.amountOf
  rw [duties_k, Finset.sum_congr rfl fun e _ => amount_k X c (.inr k) 0 e]
  exact Finset.sum_singleton _ _

/-- The whole of the barrier's round. -/
theorem rest_bar (c : Dev nD) :
    bigSep ((sched X).duties (barCell c) 0 \ ∅) (fun e => (sched X).payload (barCell c) 0 e) = bigSep Finset.univ (barPay (F := F) c) := by
  rw [Finset.sdiff_empty, show barCell c = kcell (c, .inl ()) from rfl, duties_k]
  exact bigSep_congr fun e _ => payload_k X c (.inl ()) 0 e
/-- The whole of a transfer's. -/
theorem rest_x (c : Dev nD) (k : Fin 31 ⊕ Fin 31) :
    bigSep ((sched X).duties (kcell (c, .inr k)) 0 \ ∅) (fun e => (sched X).payload (kcell (c, .inr k)) 0 e) = payK X c 0 (some (.inr k)) := by
  rw [Finset.sdiff_empty, duties_k]
  show bigSep {0} _ = _
  rw [bigSep_singleton, payload_k]

theorem expect_send (c : Dev nD) (d : Fin 31) : (sched X).expect (c.tc, SemLoc.dma (sendS d)) 0 = NB := expect_x X c (.inl d)
theorem expect_recv (c : Dev nD) (d : Fin 31) : (sched X).expect (c.tc, SemLoc.dma (recvS d)) 0 = NB := expect_x X c (.inr d)
theorem rest_send (c : Dev nD) (d : Fin 31) :
    bigSep ((sched X).duties (c.tc, SemLoc.dma (sendS d)) 0 \ ∅) (fun e => (sched X).payload (c.tc, SemLoc.dma (sendS d)) 0 e) = sendPay X c d :=
  rest_x X c (.inl d)
theorem rest_recv (c : Dev nD) (d : Fin 31) :
    bigSep ((sched X).duties (c.tc, SemLoc.dma (recvS d)) 0 \ ∅) (fun e => (sched X).payload (c.tc, SemLoc.dma (recvS d)) 0 e)
      = bPts c (bufFrom c d).view.set (Bv X c) :=
  rest_x X c (.inr d)

/-! ## What is owed -/

/-- The part of a family from `i` on. -/
def tail {A : Type} [AddCommMonoid A] (f : Fin 31 → A) (i : ℕ) : A := ∑ d ∈ Finset.univ.filter (fun d : Fin 31 => i ≤ d.val), f d

theorem tail_step {A : Type} [AddCommMonoid A] (f : Fin 31 → A) (i : Fin 31) : tail f i.val = tail f (i.val + 1) + f i := by
  unfold tail
  have h : Finset.univ.filter (fun d : Fin 31 => i.val ≤ d.val) = insert i (Finset.univ.filter fun d : Fin 31 => i.val + 1 ≤ d.val) := by
    ext d
    simp only [Finset.mem_filter, Finset.mem_univ, true_and, Finset.mem_insert, Fin.ext_iff]
    omega
  rw [h, Finset.sum_insert (by simp), add_comm]
theorem tail_end {A : Type} [AddCommMonoid A] (f : Fin 31 → A) : tail f 31 = 0 := by
  unfold tail
  rw [Finset.sum_eq_zero]
  intro d hd
  have := (Finset.mem_filter.mp hd).2
  have := d.isLt
  omega
theorem tail_zero {A : Type} [AddCommMonoid A] (f : Fin 31 → A) : tail f 0 = ∑ d, f d := by
  unfold tail
  rw [Finset.filter_true_of_mem fun d _ => Nat.zero_le _]

/-- The credit of the transfer to the peer at offset `d + 1`; the unit of the signal to it. -/
def owR (c : Dev nD) (d : Fin 31) : CellTallies nD τ sig Unit := tallyAt (recvCell (peer c d) d) () NB
def owB (c : Dev nD) (d : Fin 31) : CellTallies nD τ sig Unit := tallyAt (barCell (peer c d)) () 1
/-- What a device owes at launch. -/
def O₀ (c : Dev nD) : CellTallies nD τ sig Unit := tail (owR c) 0 + tail (owB c) 0

theorem tail_pos {h : Fin 31 → GSem nD τ sig} {n : ℕ} {i : ℕ} {g : GSem nD τ sig} {u : Unit}
    (hp : 0 < (tail (fun d => (tallyAt (h d) () n : CellTallies nD τ sig Unit)) i) g u) : ∃ d, g = h d := by
  by_contra hn
  unfold tail at hp
  rw [Finset.sum_apply, Finsupp.finset_sum_apply, Finset.sum_eq_zero] at hp
  · exact Nat.lt_irrefl 0 hp
  · intro d _
    rw [tallyAt_apply, if_neg fun h' => hn ⟨d, h'.1⟩]

def L (g : GSem nD τ sig) : Finset Unit := if g.1.2 = .tc then {()} else ∅
/-- Barrier cells at 1, receive cells at 2, everything else at 0. -/
def lv (g : GSem nD τ sig) (_ : Unit) : ℕ := levelK (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (ck : Dev nD × CK) (u : Unit) : lv (kcell ck) u = levelK (some ck.2) := congrArg levelK (dec_csem ck.2)

theorem O₀_pos {c : Dev nD} {g : GSem nD τ sig} {u : Unit} (h : 0 < O₀ c g u) :
    ∃ ck : Dev nD × CK, g = kcell ck ∧ 0 < levelK (some ck.2) := by
  unfold O₀ at h
  rw [Pi.add_apply, Finsupp.add_apply] at h
  rcases Nat.eq_zero_or_pos (tail (owR c) 0 g u) with h0 | h0
  · rw [h0, Nat.zero_add] at h
    obtain ⟨d, hd⟩ := tail_pos (h := fun d => barCell (peer c d)) h
    exact ⟨(peer c d, .inl ()), hd, Nat.one_pos⟩
  · obtain ⟨d, hd⟩ := tail_pos (h := fun d => recvCell (peer c d) d) h0
    exact ⟨(peer c d, .inr (.inr d)), hd, Nat.two_pos⟩

/-- The staging copies' waits come below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨ck, rfl, -⟩ := O₀_pos hg; exact Finset.mem_singleton_self _)
      (fun p hp => by rw [Finset.mem_singleton.mp hp]; show levelK (dec (.dma q)) ≤ 0; rw [dec_low q hq]; exact le_rfl)
      (fun g u hg => by obtain ⟨ck, rfl, h⟩ := O₀_pos hg; rw [lv_k]; exact h)
  · rw [MayWait_zero]; iintro -; iempintro

/-- At its barrier's wait a device owes its transfers, whose cells are above its barrier's. -/
theorem mayWait_bar (c : Dev nD) :
    (levAts L lv : sProp 𝕄) ⊢ MayWait (c : Thread nD τ) (.reg barS) () (tail (owR c) 0) :=
  MayOwe.of_cut (L := L) (lev := lv) 1 (fun p hp => by rw [Finset.mem_singleton.mp hp, L_tc]; exact Finset.mem_singleton_self _)
    (fun g u hg => by
      obtain ⟨d, rfl⟩ := tail_pos (h := fun d => recvCell (peer c d) d) hg
      exact Finset.mem_singleton_self _)
    (fun p hp => by rw [Finset.mem_singleton.mp hp]; exact le_rfl)
    (fun g u hg => by
      obtain ⟨d, rfl⟩ := tail_pos (h := fun d => recvCell (peer c d) d) hg
      rw [show recvCell (peer c d) d = kcell (peer c d, .inr (.inr d)) from rfl, lv_k]; exact Nat.one_lt_two)

end Cert.KernelIdeal.A2A
-- ==== Proof.ITriples.lean ====
/-
What each kind of step makes of what it is given.
-/
module

public import proofs.«01_k».proof.Proof.ISched
public import Idealize.ShloMosaic.Lib.Pipeline.Value

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (X : Dev nD → Vec F S8192x256 .bf16) (Wv : Dev nD → Vec F S8192x4096 .f32)

/-- A cell's invariant, under some name. -/
def inv (g : GSem nD τ sig) : sProp 𝕄 := iprop(∃ κ : ℕ, cellInv ER (sched X) κ g)
instance inv_persistent (g : GSem nD τ sig) : BI.Persistent (inv (F := F) X g) := by unfold inv; infer_instance

/-- What a device owes, whatever it has waited for. -/
def Own (c : Dev nD) (O : CellTallies nD τ sig Unit) : sProp 𝕄 := iprop(∃ W, owes (c : Thread nD τ) O W)

/-! ## The barrier -/

/-- What the signal at an offset takes. -/
def SIG (c : Dev nD) (d : Fin 31) : sProp 𝕄 :=
  iprop(inv X (barCell (peer c d)) ∗ reached ER (barCell (peer c d)) 0 ∗ dutyTok ER (barCell (peer c d)) 0 d.rev
    ∗ ∃ f, bPts c (bufMine (peer c d)).view.set f)

theorem tr_sig (c : Dev nD) (d : Fin 31) (O O' : CellTallies nD τ sig Unit) (hO : O = O' + owB c d) :
    Tr c iprop(SIG X c d ∗ Own c O) iprop(emp ∗ Own c O') (sigStep (F := F) c d) := by
  intro k Q
  unfold SIG Own inv sigStep
  iintro ⟨⟨⟨⟨%κ, #HI⟩, #Hr, Ht, Hf⟩, ⟨%W, HO⟩⟩, Hk⟩
  iapply (Rounds.wp_signal 𝒱₀ ER (sched X) (c : Thread nD τ) none (dst := (peer c d : Thread nD τ)) (κ := κ)
      (d := d.rev) (mem_bar X _ _) ((amount_k X (peer c d) (.inl ()) 0 d.rev).trans (by decide)) () O' (W := W) hO) $$ [HO Ht Hf]
  · isplitr; · iexact HI
    isplitl [HO]; · iexact HO
    isplitl [Ht]; · iexact Ht
    isplitl [Hf]
    · rw [show (sched X).payload (barCell (peer c d)) 0 d.rev = barPay (peer c d) d.rev from payload_k X (peer c d) (.inl ()) 0 d.rev]
      unfold barPay
      rw [peer_peer_rev]
      iexact Hf
    · iexact Hr
  iintro HO
  iapply Hk
  isplitr; · iempintro
  iexists W; iexact HO

theorem tr_bar (c : Dev nD) :
    Tr c iprop((inv X (barCell c) ∗ cred (tallyAt (barCell c) () 31) ∗ atPos ER (barCell c) 0 ∅ 0 ∗ levAts L lv) ∗ Own c (tail (owR c) 0))
      iprop((bigSep Finset.univ (barPay (F := F) c) ∗ semVal (barCell c) 0) ∗ Own c (tail (owR c) 0)) (barStep (F := F)) := by
  intro k Q
  unfold Own inv barStep
  iintro ⟨⟨⟨⟨%κ, #HI⟩, Hc, Hat, #Hlev⟩, ⟨%W, HO⟩⟩, Hk⟩
  iapply (Rounds.wp_wait_rest_token 𝒱₀ ER (sched X) (c : Thread nD τ) none (κ := κ)
      (wpE_semWait_eq 𝒱₀ (c : Thread nD τ) none Set.univ) (Set.mem_univ _) () (O := tail (owR c) 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  imod (Rounds.cell_close ER (sched X) (Set.mem_univ κ) (fun h => h) (R := 0 + 1) (duties_later X (barCell c))) $$ [Hat] with Hz
  · isplitr; · iexact HI
    iexact Hat
  iapply Hk
  isplitl [Hp Hz]
  · isplitl [Hp] <;> iassumption
  iexists _; iexact HO

/-! ## The exchange -/

/-- What the transfer at an offset takes, beside the peer's rows. -/
def SND (c : Dev nD) (d : Fin 31) : sProp 𝕄 :=
  iprop(inv X (sendCell c d) ∗ inv X (recvCell (peer c d) d) ∗ reached ER (sendCell c d) 0 ∗ reached ER (recvCell (peer c d) d) 0
    ∗ dutyTok ER (sendCell c d) 0 (0 : Fin 31) ∗ dutyTok ER (recvCell (peer c d) d) 0 (0 : Fin 31) ∗ sendPay X c d)

/-- What a sender's copy leaves is what its receiver reads. -/
theorem landed_eq (c : Dev nD) (d : Fin 31) (f : Vec F S8192x256 .bf16) :
    (bPts (peer c d) (bufMine c).view.set ((bufMine c).view.write (Elt F) f ((xSrc c d).view.read (Elt F) (X c)) Finset.univ) : sProp 𝕄)
      = recvPay X (peer c d) d := by
  have hset : (bufMine c).view.set = (bufFrom (peer c d) d).view.set := by
    have h := set_bufMine_src (peer c d) d
    rwa [src_peer] at h
  unfold recvPay
  refine (pointsTo_congr (write_on_set (bufMine c).view f (Bv X (peer c d)) _ (read_B X c d))).trans ?_
  rw [hset]

theorem tr_send (c : Dev nD) (d : Fin 31) :
    Tr c iprop((SND X c d ∗ barPay c d) ∗ Own c (tail (owR c) d.val)) iprop(cred (tallyAt (sendCell c d) () NB) ∗ Own c (tail (owR c) (d.val + 1)))
      (sendStep (F := F) c d) := by
  intro k Q
  unfold SND barPay Own inv sendStep sendPay
  iintro ⟨⟨⟨⟨⟨%κ₁, #HI₁⟩, ⟨%κ₂, #HI₂⟩, #Hr₁, #Hr₂, Ht₁, Ht₂, Hx⟩, ⟨%f, Hf⟩⟩, ⟨%W, HO⟩⟩, Hk⟩
  iapply (Rounds.wp_send_pointsTo 𝒱₀ ER (sched X) (c : Thread nD τ) none (src := xSrc c d) (dst := bufMine c) (c' := (peer c d : Thread nD τ))
    (sS := .dma (sendS d)) (sem := .dma (recvS d)) (κ₁ := κ₁) (κ₂ := κ₂)
    (r₁ := 0) (r₂ := 0) (d₁ := (0 : Fin 31)) (d₂ := (0 : Fin 31)) (q := fullShare) (fs := X c) (fd := f)
    (mem_x X c (.inl d)) (mem_x X (peer c d) (.inr d))
    () () NB rfl (amount_k X c (.inr (.inl d)) 0 0) (amount_k X (peer c d) (.inr (.inr d)) 0 0) (tail (owR c) (d.val + 1)) (tail_step _ d) (W := W)
    (Entails.of_eq (payload_k X c (.inr (.inl d)) 0 0).symm)
    (Entails.of_eq ((landed_eq X c d f).trans (payload_k X (peer c d) (.inr (.inr d)) 0 0).symm))) $$ [Hx Hf HO Ht₁ Ht₂]
  · isplitr; · iexact HI₁
    isplitr; · iexact HI₂
    isplitl [Hx]; · iexact Hx
    isplitl [Hf]; · iexact Hf
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- What the wait for a transfer's reading takes. -/
def SNT (c : Dev nD) (d : Fin 31) : sProp 𝕄 := iprop(inv X (sendCell c d) ∗ atPos ER (sendCell c d) 0 ∅ 0)

theorem tr_sent (c : Dev nD) (d : Fin 31) :
    Tr c iprop((SNT X c d ∗ cred (tallyAt (sendCell c d) () NB)) ∗ Own c 0) iprop((sendPay X c d ∗ semVal (sendCell c d) 0) ∗ Own c 0)
      (sentStep (F := F) c d) := by
  intro k Q
  unfold SNT Own inv sentStep
  iintro ⟨⟨⟨⟨⟨%κ, #HI⟩, Hat⟩, Hc⟩, ⟨%W, HO⟩⟩, Hk⟩
  iapply (Rounds.wp_wait_rest_token 𝒱₀ ER (sched X) (c : Thread nD τ) none (κ := κ)
      (wpE_waitDma2_eq 𝒱₀ (c : Thread nD τ) none Set.univ) (Set.mem_univ _) () (O := 0) (W := W) (R := 0) (m := 0) (T := ∅)
      (by rw [Nat.zero_add]; exact (expect_send X c d).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send X c d)) $$ Hpay
  imod (Rounds.cell_close ER (sched X) (Set.mem_univ κ) (fun h => h) (R := 0 + 1) (duties_later X (sendCell c d))) $$ [Hat] with Hz
  · isplitr; · iexact HI
    iexact Hat
  iapply Hk
  isplitl [Hp Hz]
  · isplitl [Hp]; · iexact Hp
    iexact Hz
  iexists _; iexact HO

/-! ## The left operand -/

theorem setOn_whole (b : Ref sig .tc) (S : Finset b.ty.shape.Idx) : (View.whole b).setOn S = S := Finset.map_refl

/-- A part of the left operand, to be filled; -/
def AF (c : Dev nD) (p : Fin 4) : sProp 𝕄 := iprop(∃ f, aPts (F := F) c (aRect p).set f)
/-- filled for group `j`. -/
def AH (c : Dev nD) (j : Fin 8) (p : Fin 4) : sProp 𝕄 := aPts c (aRect p).set (Av X c j)

theorem tr_put (c : Dev nD) (j : Fin 8) (p : Fin 4) (v : Vec F S256x256 .bf16) (h : (aM.view.slice (aRect p)).read (Elt F) (Av X c j) = v) :
    Tr c (AF c p) (AH X c j p) (putA p v) := by
  intro k Q
  unfold AF AH putA
  iintro ⟨⟨%f, Ha⟩, Hk⟩
  have hS : aM.view.setOn (aRect p).toLoadRect.set ⊆ (aRect p).set := by
    rw [show aM.view.setOn (aRect p).toLoadRect.set = (aRect p).toLoadRect.set from setOn_whole cc0_scratch1 _]
  have hS' : (aM.access (aRect p)).setOn Finset.univ ⊆ (aRect p).set := by
    rw [View.setOn_univ, show (aM.access (aRect p)).set = (aRect p).set from View.set_slice_whole cc0_scratch1 (aRect p)]
  have hset : (aM.access (aRect p)).set = (aRect p).set := View.set_slice_whole cc0_scratch1 (aRect p)
  iapply (wp_load 𝒱₀ (c : Thread nD τ) none Set.univ (m := aM) (q := fullShare) (f := f) hS) $$ Ha; iintro Ha
  iapply (wp_store 𝒱₀ (c : Thread nD τ) none Set.univ (m := aM) (r := aRect p) (Mk := Finset.univ) (f := f) hS') $$ Ha; iintro Ha
  iapply Hk
  iapply (Entails.of_eq (pointsTo_congr fun i hi => write_on_set (aM.access (aRect p)) f (Av X c j) v h i (hset ▸ hi)))
  iexact Ha

/-- The device's own rows of `x`. -/
def XO (c : Dev nD) : sProp 𝕄 := xPts c (Finset.univ.filter (xCls c · = 0)) (X c)

theorem tr_own (c : Dev nD) : Tr c iprop(XO X c ∗ AF c 0) iprop(XO X c ∗ AH X c 0 0) (ownStep (F := F) c) := by
  intro k Q
  unfold XO ownStep
  iintro ⟨⟨Hx, Ha⟩, Hk⟩
  iapply (wp_load 𝒱₀ (c : Thread nD τ) none Set.univ (m := xM) (q := fullShare) (f := X c)
    (S := Finset.univ.filter (xCls c · = 0)) (by
      rw [show xM.view.setOn _ = _ from setOn_whole cc0_stg0_0 _]; exact (set_off4 c).le)) $$ Hx; iintro Hx
  iapply (tr_put X c 0 0 _ ((read_own X c).trans ((shapeCast_self _ shapeCasts_S256x256_S256x256).trans
    (shapeCast_self _ shapeCasts_S256x256_S256x256)).symm) k Q)
  isplitl [Ha]; · iexact Ha
  iintro Ha
  iapply Hk
  isplitl [Hx] <;> iassumption

/-- What the wait for a block takes; -/
def RCV (c : Dev nD) (d : Fin 31) : sProp 𝕄 :=
  iprop(inv X (recvCell c d) ∗ atPos ER (recvCell c d) 0 ∅ 0 ∗ cred (tallyAt (recvCell c d) () NB))
/-- what it leaves. -/
def RCD (c : Dev nD) (d : Fin 31) : sProp 𝕄 := iprop(recvPay X c d ∗ semVal (recvCell c d) 0)

theorem tr_recv (c : Dev nD) (j : Fin 8) (p : Fin 4) (d : Fin 31) (hd : d.val + 1 = 4 * j.val + p.val) :
    Tr c iprop((RCV X c d ∗ AF c p) ∗ Own c 0) iprop((RCD X c d ∗ AH X c j p) ∗ Own c 0) (recvStep (F := F) c d p) := by
  intro k Q
  unfold RCV RCD recvPay Own inv recvStep
  iintro ⟨⟨⟨⟨⟨%κ, #HI⟩, Hat, Hc⟩, Ha⟩, ⟨%W, HO⟩⟩, Hk⟩
  iapply (Rounds.wp_wait_rest_token 𝒱₀ ER (sched X) (c : Thread nD τ) none (κ := κ)
      (wpE_waitDma2_eq 𝒱₀ (c : Thread nD τ) none Set.univ) (Set.mem_univ _) () (O := 0) (W := W) (R := 0) (m := 0) (T := ∅)
      (by rw [Nat.zero_add]; exact (expect_recv X c d).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv X c d)) $$ Hpay
  imod (Rounds.cell_close ER (sched X) (Set.mem_univ κ) (fun h => h) (R := 0 + 1) (duties_later X (recvCell c d))) $$ [Hat] with Hz
  · isplitr; · iexact HI
    iexact Hat
  iapply (wp_load 𝒱₀ (c : Thread nD τ) none Set.univ (m := bufM) (q := fullShare) (f := Bv X c)
    (S := (bufFrom c d).view.set) (by
      rw [show bufM.view.setOn _ = _ from setOn_whole cc0_scratch0 _, set_bufFrom]; exact (set_off6 c d).le)) $$ Hp; iintro Hp
  iapply (tr_put X c j p _ ((read_part X c j p d hd).trans (shapeCast_self _ shapeCasts_S256x256_S256x256).symm) k Q)
  isplitl [Ha]; · iexact Ha
  iintro Ha
  iapply Hk
  isplitl [Hp Hz Ha]
  · isplitl [Hp Hz]
    · isplitl [Hp]; · iexact Hp
      iexact Hz
    iexact Ha
  iexists _; iexact HO

/-! ## The weights -/

abbrev wCell (c : Dev nD) (j : Fin 8) (p : Fin 4) : GSem nD τ sig := ((c : Thread nD τ), .dma (wS j p))
/-- The credit of a block of the weights. -/
abbrev NW : ℕ := (wDst 0 0).view.dmaCredit
theorem NW_pos : 0 < NW := View.dmaCredit_pos _ (by decide)

/-- A block of the weights in the argument; -/
def WB (c : Dev nD) (j : Fin 8) (p : Fin 4) : sProp 𝕄 := wPts c (wSrc c j p).view.set (Wv c)
/-- where it is put, free; -/
def GF (c : Dev nD) (j : Fin 8) (p : Fin 4) : sProp 𝕄 := iprop((∃ f, gPts (F := F) c (wDst j p).view.set f) ∗ semVal (wCell c j p) 0)
/-- filled; -/
def GH (c : Dev nD) (j : Fin 8) (p : Fin 4) : sProp 𝕄 := gPts c (wDst j p).view.set (Gv Wv c j)
/-- its copy in flight. -/
def FL (c : Dev nD) (j : Fin 8) (p : Fin 4) : sProp 𝕄 :=
  Flight EC (c : Thread nD τ) (.dma (wS j p)) () NW iprop(GH Wv c j p ∗ WB Wv c j p)

theorem tr_wstart (c : Dev nD) (j : Fin 8) (p : Fin 4) : Tr c iprop(WB Wv c j p ∗ GF c j p) (FL Wv c j p) (wStart (F := F) c j p) := by
  intro k Q
  unfold WB GF FL GH WB wStart
  iintro ⟨⟨Hw, ⟨%f, Hg⟩, Hz⟩, Hk⟩
  iapply (wp_dmaLocal EC 𝒱₀ (c : Thread nD τ) none (src := wSrc c j p) (dst := wDst j p) (sm := .dma (wS j p)) (q := fullShare) (fs := Wv c)
    (Sd := (wDst j p).view.set) (fd := f) () NW rfl NW_pos subset_rfl) $$ [Hw Hg Hz]
  · isplitl [Hw]; · iexact Hw
    isplitl [Hg]; · iexact Hg
    iexact Hz
  iintro Hf
  iapply Hk
  iapply (Flight_mono EC (c : Thread nD τ) (sep_mono_left (Entails.of_eq (pointsTo_congr
    (write_on_set (wDst j p).view f (Gv Wv c j) ((wSrc c j p).view.read (Elt F) (Wv c)) (read_G Wv c j p))))))
  iexact Hf

theorem tr_wwait (c : Dev nD) (j : Fin 8) (p : Fin 4) :
    Tr c iprop(FL Wv c j p ∗ Own c 0) iprop((GH Wv c j p ∗ WB Wv c j p ∗ semVal (wCell c j p) 0) ∗ Own c 0) (wWait (F := F) c j p) := by
  intro k Q
  unfold FL Own wWait
  iintro ⟨⟨Hf, ⟨%W, HO⟩⟩, Hk⟩
  iapply (wp_waitLocal EC 𝒱₀ (c : Thread nD τ) none () (sem := wS j p) (N := NW) (srcw := wSrc c j p) (dstw := wDst j p) rfl (W := W)) $$ [Hf HO]
  · isplitl [Hf]; · iexact Hf
    iexact HO
  iintro ⟨⟨Hg, Hw⟩, Hz, HO⟩
  iapply Hk
  isplitl [Hg Hw Hz]
  · isplitl [Hg]; · iexact Hg
    isplitl [Hw]; · iexact Hw
    iexact Hz
  iexists _; iexact HO

end Cert.KernelIdeal.A2A
-- ==== Proof.IBody.lean ====
/-
The groups of the kernel, and its body: given the exchange's tokens and the buffers piece by piece, the body runs and
leaves the result's buffer at the sum of the groups' products, every piece and every semaphore back.
-/
module

public import proofs.«01_k».proof.Proof.ITriples

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (X : Dev nD → Vec F S8192x256 .bf16) (Wv : Dev nD → Vec F S8192x4096 .f32)

/-! ## The product of a group -/

theorem hz2 : (![0, 0] : Fin 2 → ℕ) = fun _ => 0 := funext fun a => by fin_cases a <;> rfl

/-- The four parts of a slot are the slot. -/
theorem slot_parts (c : Dev nD) (j : Fin 8) :
    (bigSep Finset.univ fun p : Fin 4 => GH Wv c j p)
      = gPts c (Finset.univ.biUnion fun p : Fin 4 => (wDst j p).view.set) (Gv Wv c j) := by
  unfold GH
  refine (pointsTo_biUnion (ℓ := (c : Thread nD τ).loc cc0_scratch2) Finset.univ (fun p : Fin 4 => (wDst j p).view.set) fun p _ p' _ h => ?_).symm
  rw [set_wDst, set_wDst]
  exact Finset.disjoint_left.mpr fun i hi hi' =>
    h (congrArg Prod.snd ((Finset.mem_filter.mp hi).2.symm.trans (Finset.mem_filter.mp hi').2))

theorem slot_sub (j : Fin 8) :
    (Rect.unit (s := S2x1024x4096) ![j.val % 2, 0, 0] S1x1024x4096.size (inb_wslot j)).set
      ⊆ Finset.univ.biUnion fun p : Fin 4 => (wDst j p).view.set := by
  rw [set_slot]
  intro i hi
  have h := (Finset.mem_filter.mp hi).2
  have h1 : (i 1).val < 1024 := (i 1).isLt
  refine Finset.mem_biUnion.mpr ⟨⟨(i 1).val / 256, by omega⟩, Finset.mem_univ _, ?_⟩
  rw [set_wDst]
  exact Finset.mem_filter.mpr ⟨Finset.mem_univ _, Prod.ext (Fin.ext h) rfl⟩

/-- The four parts of the left operand are the left operand. -/
theorem a_parts (c : Dev nD) (j : Fin 8) :
    (bigSep Finset.univ fun p : Fin 4 => AH X c j p) = (((c : Thread nD τ).loc cc0_scratch1) ↦{fullShare} Av X c j : sProp 𝕄) := by
  unfold AH
  simp only [set_aRect]
  exact (pts_pieces (ℓ := (c : Thread nD τ).loc cc0_scratch1) aCls (Av X c j)).symm

/-- The operands of group `j`, read. -/
theorem wp_opnds (c : Dev nD) (j : Fin 8) (k : Vec F S1x1024x4096 .f32 → Vec F S256x1024 .bf16 → KProg F) (Q : PUnit → sProp 𝕄) :
    iprop(((bigSep Finset.univ fun p : Fin 4 => GH Wv c j p) ∗ (bigSep Finset.univ fun p : Fin 4 => AH X c j p))
        ∗ (((bigSep Finset.univ fun p : Fin 4 => GH Wv c j p) ∗ (bigSep Finset.univ fun p : Fin 4 => AH X c j p))
          -∗ wp frame (wpE (defs₀ (F := F)) 𝒱₀ (c : Thread nD τ) none) Set.univ (k (GvL Wv c j) (Av X c j)) Q))
      ⊢ wp frame (wpE (defs₀ (F := F)) 𝒱₀ (c : Thread nD τ) none) Set.univ (opnds j k) Q := by
  rw [slot_parts, a_parts]
  unfold opnds
  iintro ⟨⟨Hg, Ha⟩, Hk⟩
  iapply (wp_load 𝒱₀ (c : Thread nD τ) none Set.univ (m := wgM) (q := fullShare) (f := Gv Wv c j)
    (S := Finset.univ.biUnion fun p : Fin 4 => (wDst j p).view.set) (by
      rw [show wgM.view.setOn _ = _ from setOn_whole cc0_scratch2 _]; exact slot_sub j)) $$ Hg; iintro Hg
  iapply (wp_load 𝒱₀ (c : Thread nD τ) none Set.univ (m := aM) (q := fullShare) (f := Av X c j) (Finset.subset_univ _)) $$ Ha; iintro Ha
  rw [read_slot, show aM.view.readAt (Elt F) (Rect.unit (s := S256x1024) ![0, 0] S256x1024.size inb_S256x1024_S256x1024_0_0).toLoadRect (Av X c j) = Av X c j
    from Memref.readAt_unit_zero (Elt F) cc0_scratch1 hz2 _ _]
  iapply Hk
  isplitl [Hg]; · iexact Hg
  iexact Ha

theorem wp_loadO (c : Dev nD) (o : Vec F S256x4096 .f32) (k : Vec F S256x4096 .f32 → KProg F) (Q : PUnit → sProp 𝕄) :
    iprop(oPts c o ∗ (oPts c o -∗ wp frame (wpE (defs₀ (F := F)) 𝒱₀ (c : Thread nD τ) none) Set.univ (k o) Q))
      ⊢ wp frame (wpE (defs₀ (F := F)) 𝒱₀ (c : Thread nD τ) none) Set.univ (loadO k) Q := by
  unfold loadO
  iintro ⟨Ho, Hk⟩
  iapply (wp_load 𝒱₀ (c : Thread nD τ) none Set.univ (m := oM) (q := fullShare) (f := o) (Finset.subset_univ _)) $$ Ho; iintro Ho
  rw [show oM.view.readAt (Elt F) (Rect.unit (s := S256x4096) ![0, 0] S256x4096.size inb_S256x4096_S256x4096_0_0).toLoadRect o = o
    from Memref.readAt_unit_zero (Elt F) cc0_stg1_0 hz2 _ _]
  iapply Hk
  iexact Ho

theorem wp_storeO (c : Dev nD) (o v : Vec F S256x4096 .f32) (k : KProg F) (Q : PUnit → sProp 𝕄) :
    iprop(oPts c o ∗ (oPts c v -∗ wp frame (wpE (defs₀ (F := F)) 𝒱₀ (c : Thread nD τ) none) Set.univ k Q))
      ⊢ wp frame (wpE (defs₀ (F := F)) 𝒱₀ (c : Thread nD τ) none) Set.univ (storeO v k) Q := by
  unfold storeO
  iintro ⟨Ho, Hk⟩
  iapply (wp_store 𝒱₀ (c : Thread nD τ) none Set.univ (m := oM)
    (r := Rect.unit (s := S256x4096) ![0, 0] S256x4096.size inb_S256x4096_S256x4096_0_0) (Mk := Finset.univ) (f := o) (Finset.subset_univ _)) $$ Ho
  iintro Ho
  rw [show (oM.access (Rect.unit (s := S256x4096) ![0, 0] S256x4096.size inb_S256x4096_S256x4096_0_0)).write (Elt F) o v Finset.univ = v
    from Memref.write_access_unit_zero_univ (Elt F) cc0_stg1_0 hz2 _ o v]
  iapply Hk
  iexact Ho

/-- What a product takes and leaves beside the result. -/
def OPS (c : Dev nD) (j : Fin 8) : sProp 𝕄 :=
  iprop((bigSep Finset.univ fun p : Fin 4 => GH Wv c j p) ∗ (bigSep Finset.univ fun p : Fin 4 => AH X c j p))

theorem tr_mulFirst (c : Dev nD) : Tr c iprop(OPS X Wv c 0 ∗ ∃ o, oPts c o) iprop(OPS X Wv c 0 ∗ oPts c (Ov X Wv c 0)) (mulFirst (F := F)) := by
  intro k Q
  unfold OPS mulFirst
  iintro ⟨⟨Hop, ⟨%o, Ho⟩⟩, Hk⟩
  iapply (wp_opnds X Wv c 0)
  isplitl [Hop]; · iexact Hop
  iintro Hop
  iapply (wp_loadO c o)
  isplitl [Ho]; · iexact Ho
  iintro Ho
  iapply (wp_storeO c o)
  isplitl [Ho]; · iexact Ho
  iintro Ho
  iapply Hk
  isplitl [Hop]; · iexact Hop
  iexact Ho

theorem Ov_succ (c : Dev nD) (j : Fin 7) :
    Ov X Wv c (j.val + 1) = addf (Ov X Wv c j.val) (prodV (GvL Wv c j.succ) (Av X c j.succ)) := by
  have h : (⟨(j.val + 1) % 8, Nat.mod_lt _ (by decide)⟩ : Fin 8) = j.succ := Fin.ext (by show (j.val + 1) % 8 = j.val + 1; have := j.isLt; omega)
  rw [Ov, h]

theorem tr_mulNext (c : Dev nD) (j : Fin 7) :
    Tr c iprop(OPS X Wv c j.succ ∗ oPts c (Ov X Wv c j.val)) iprop(OPS X Wv c j.succ ∗ oPts c (Ov X Wv c (j.val + 1))) (mulNext (F := F) j.succ) := by
  intro k Q
  unfold OPS mulNext
  iintro ⟨⟨Hop, Ho⟩, Hk⟩
  iapply (wp_opnds X Wv c j.succ)
  isplitl [Hop]; · iexact Hop
  iintro Hop
  iapply (wp_loadO c (Ov X Wv c j.val))
  isplitl [Ho]; · iexact Ho
  iintro Ho
  iapply (wp_loadO c (Ov X Wv c j.val))
  isplitl [Ho]; · iexact Ho
  iintro Ho
  rw [shapeCast_self, ← Ov_succ]
  iapply (wp_storeO c (Ov X Wv c j.val))
  isplitl [Ho]; · iexact Ho
  iintro Ho
  iapply Hk
  isplitl [Hop]; · iexact Hop
  iexact Ho

/-! ## The families -/

abbrev B4 (Φ : Fin 4 → sProp 𝕄) : sProp 𝕄 := bigSep Finset.univ Φ
abbrev B31 (Φ : Fin 31 → sProp 𝕄) : sProp 𝕄 := bigSep Finset.univ Φ

/-- A free slot is that of any group of the same parity. -/
theorem GF_congr (c : Dev nD) {j j' : Fin 8} (h : j.val % 2 = j'.val % 2) (p : Fin 4) : (GF c j p : sProp 𝕄) = GF c j' p := by
  have hs : (wS j p : DmaSem sig) = wS j' p := Fin.ext (by rw [wS_val, wS_val, h])
  have hd : (wDst j p).view.set = (wDst j' p).view.set := by
    rw [set_wDst, set_wDst]
    exact congrArg (fun b => Finset.univ.filter (gCls · = b)) (Prod.ext (Fin.ext h) rfl)
  unfold GF wCell
  rw [hs, hd]

theorem AH_AF1 (c : Dev nD) (j : Fin 8) (p : Fin 4) : (AH X c j p : sProp 𝕄) ⊢ AF c p := by
  unfold AH AF; iintro H; iexists _; iexact H
theorem AH_AF (c : Dev nD) (j : Fin 8) : B4 (AH X c j) ⊢ B4 (AF (F := F) c) := bigSep_mono fun p _ => AH_AF1 X c j p
theorem GH_GF1 (c : Dev nD) (j : Fin 8) (p : Fin 4) : (iprop(GH Wv c j p ∗ semVal (wCell c j p) 0) : sProp 𝕄) ⊢ GF c j p := by
  unfold GH GF
  iintro ⟨H, Hz⟩
  isplitl [H]; · iexists _; iexact H
  iexact Hz
theorem GH_GF (c : Dev nD) (j : Fin 8) : iprop(B4 (GH Wv c j) ∗ B4 fun p => semVal (wCell c j p) 0) ⊢ B4 (GF (F := F) c j) := by
  rw [← bigSep_sep']
  exact bigSep_mono fun p _ => GH_GF1 Wv c j p
theorem B4_succ (Φ : Fin 4 → sProp 𝕄) : B4 Φ = iprop(Φ 0 ∗ bigSep Finset.univ fun i : Fin 3 => Φ i.succ) := bigSep_succ Φ

theorem tr_wstarts (c : Dev nD) (j : Fin 8) :
    Tr c iprop(B4 (WB Wv c j) ∗ B4 (GF c j)) (B4 (FL Wv c j)) (seqFin 4 (wStart (F := F) c j)) := by
  have h := Tr.loop' (c := c) 4 (wStart (F := F) c j) (fun p => iprop(WB Wv c j p ∗ GF c j p)) (FL Wv c j) iprop(emp)
    (fun p => (tr_wstart Wv c j p).frame iprop(emp))
  rw [bigSep_sep'] at h
  refine h.conseq ?_ ?_
  · iintro H; isplitl [H]; · iexact H
    iempintro
  · iintro ⟨H, -⟩; iexact H

theorem tr_wwaits (c : Dev nD) (j : Fin 8) :
    Tr c iprop(B4 (FL Wv c j) ∗ Own c 0) iprop((B4 (GH Wv c j) ∗ B4 (WB Wv c j) ∗ B4 fun p => semVal (wCell c j p) 0) ∗ Own c 0)
      (seqFin 4 (wWait (F := F) c j)) := by
  have h := Tr.loop' (c := c) 4 (wWait (F := F) c j) (FL Wv c j) _ (Own c 0) (fun p => tr_wwait Wv c j p)
  rw [bigSep_sep', bigSep_sep'] at h
  exact h

theorem tr_recvs (c : Dev nD) (j : Fin 7) :
    Tr c iprop(((B4 fun p => RCV X c (offN j p)) ∗ B4 (AF c)) ∗ Own c 0) iprop(((B4 fun p => RCD X c (offN j p)) ∗ B4 (AH X c j.succ)) ∗ Own c 0)
      (seqFin 4 fun p => recvStep (F := F) c (offN j p) p) := by
  have h := Tr.loop' (c := c) 4 (fun p => recvStep (F := F) c (offN j p) p) (fun p => iprop(RCV X c (offN j p) ∗ AF c p))
    (fun p => iprop(RCD X c (offN j p) ∗ AH X c j.succ p)) (Own c 0) (fun p => tr_recv X c j.succ p (offN j p) (by
      show 4 * j.val + 3 + p.val + 1 = 4 * (j.val + 1) + p.val; omega))
  rw [bigSep_sep', bigSep_sep'] at h
  exact h

theorem tr_recvs0 (c : Dev nD) :
    Tr c iprop(((bigSep Finset.univ fun p : Fin 3 => RCV X c (off0 p)) ∗ bigSep Finset.univ fun p : Fin 3 => AF c p.succ) ∗ Own c 0)
      iprop(((bigSep Finset.univ fun p : Fin 3 => RCD X c (off0 p)) ∗ bigSep Finset.univ fun p : Fin 3 => AH X c 0 p.succ) ∗ Own c 0)
      (seqFin 3 fun p => recvStep (F := F) c (off0 p) p.succ) := by
  have h := Tr.loop' (c := c) 3 (fun p => recvStep (F := F) c (off0 p) p.succ) (fun p => iprop(RCV X c (off0 p) ∗ AF c p.succ))
    (fun p => iprop(RCD X c (off0 p) ∗ AH X c 0 p.succ)) (Own c 0) (fun p => tr_recv X c 0 p.succ (off0 p) (by
      show p.val + 1 = 4 * 0 + (p.val + 1); omega))
  rw [bigSep_sep', bigSep_sep'] at h
  exact h

/-! ## The groups -/

/-- A group after the first, once its successor's copies are started. -/
theorem tr_groupTail (c : Dev nD) (j : Fin 7) :
    Tr c iprop((B4 fun p => RCV X c (offN j p)) ∗ B4 (FL Wv c j.succ) ∗ B4 (AF c) ∗ oPts c (Ov X Wv c j.val) ∗ Own c 0)
      iprop((B4 fun p => RCD X c (offN j p)) ∗ B4 (WB Wv c j.succ) ∗ B4 (GF c j.succ) ∗ B4 (AF c) ∗ oPts c (Ov X Wv c (j.val + 1)) ∗ Own c 0)
      (groupTail (F := F) c j) := by
  intro k Q
  unfold groupTail
  iintro ⟨⟨HR, HF, HA, Ho, HO⟩, Hk⟩
  iapply (tr_recvs X c j _ Q)
  isplitl [HR HA HO]
  · isplitl [HR HA]
    · isplitl [HR]; · iexact HR
      iexact HA
    iexact HO
  iintro ⟨⟨HR, HA⟩, HO⟩
  iapply (tr_wwaits Wv c j.succ _ Q)
  isplitl [HF HO]
  · isplitl [HF]; · iexact HF
    iexact HO
  iintro ⟨⟨HG, HW, Hz⟩, HO⟩
  iapply (tr_mulNext X Wv c j _ Q)
  unfold OPS
  isplitl [HG HA Ho]
  · isplitl [HG HA]
    · isplitl [HG]; · iexact HG
      iexact HA
    iexact Ho
  iintro ⟨⟨HG, HA⟩, Ho⟩
  iapply Hk
  isplitl [HR]; · iexact HR
  isplitl [HW]; · iexact HW
  isplitl [HG Hz]
  · iapply (GH_GF Wv c j.succ)
    isplitl [HG]; · iexact HG
    iexact Hz
  isplitl [HA]
  · iapply (AH_AF X c j.succ); iexact HA
  isplitl [Ho]; · iexact Ho
  iexact HO

/-- The first group. -/
theorem tr_group0 (c : Dev nD) :
    Tr c iprop((bigSep Finset.univ fun p : Fin 3 => RCV X c (off0 p)) ∗ B4 (WB Wv c 1) ∗ B4 (GF c 1) ∗ B4 (FL Wv c 0) ∗ XO X c ∗ B4 (AF c)
        ∗ (∃ o, oPts c o) ∗ Own c 0)
      iprop((bigSep Finset.univ fun p : Fin 3 => RCD X c (off0 p)) ∗ B4 (WB Wv c 0) ∗ B4 (GF c 0) ∗ B4 (FL Wv c 1) ∗ XO X c ∗ B4 (AF c)
        ∗ oPts c (Ov X Wv c 0) ∗ Own c 0)
      (group0 (F := F) c) := by
  intro k Q
  unfold group0
  rw [B4_succ (AF (F := F) c)]
  iintro ⟨⟨HR, HW1, HG1, HF, HX, ⟨HA0, HA⟩, Ho, HO⟩, Hk⟩
  iapply (tr_wstarts Wv c 1 _ Q)
  isplitl [HW1 HG1]
  · isplitl [HW1]; · iexact HW1
    iexact HG1
  iintro HF1
  iapply (tr_own X c _ Q)
  isplitl [HX HA0]
  · isplitl [HX]; · iexact HX
    iexact HA0
  iintro ⟨HX, HA0⟩
  iapply (tr_recvs0 X c _ Q)
  isplitl [HR HA HO]
  · isplitl [HR HA]
    · isplitl [HR]; · iexact HR
      iexact HA
    iexact HO
  iintro ⟨⟨HR, HA⟩, HO⟩
  iapply (tr_wwaits Wv c 0 _ Q)
  isplitl [HF HO]
  · isplitl [HF]; · iexact HF
    iexact HO
  iintro ⟨⟨HG, HW, Hz⟩, HO⟩
  iapply (tr_mulFirst X Wv c _ Q)
  unfold OPS
  rw [bigSep_succ (fun p : Fin 4 => AH X c 0 p)]
  isplitl [HG HA HA0 Ho]
  · isplitl [HG HA HA0]
    · isplitl [HG]; · iexact HG
      isplitl [HA0]; · iexact HA0
      iexact HA
    iexact Ho
  rw [← bigSep_succ (fun p : Fin 4 => AH X c 0 p), ← B4_succ (AF (F := F) c)]
  iintro ⟨⟨HG, HA⟩, Ho⟩
  iapply Hk
  isplitl [HR]; · iexact HR
  isplitl [HW]; · iexact HW
  isplitl [HG Hz]
  · iapply (GH_GF Wv c 0)
    isplitl [HG]; · iexact HG
    iexact Hz
  isplitl [HF1]; · iexact HF1
  isplitl [HX]; · iexact HX
  isplitl [HA]
  · iapply (AH_AF X c 0); iexact HA
  isplitl [Ho]; · iexact Ho
  iexact HO

/-- A group's number. -/
def j8 (n : ℕ) : Fin 8 := ⟨n % 8, Nat.mod_lt _ (by decide)⟩

/-- What the groups between the first and the last carry: the next group's copies in flight, the other slot free. -/
def LOOP (c : Dev nD) (n : ℕ) : sProp 𝕄 :=
  iprop(B4 (FL Wv c (j8 (n + 1))) ∗ B4 (GF c (j8 n)) ∗ B4 (AF c) ∗ oPts c (Ov X Wv c n) ∗ Own c 0)

theorem tr_groupMid (c : Dev nD) (i : Fin 6) :
    Tr c iprop((B4 (WB Wv c i.succ.succ) ∗ B4 fun p => RCV X c (offN i.castSucc p)) ∗ LOOP X Wv c i.val)
      iprop((B4 (WB Wv c i.castSucc.succ) ∗ B4 fun p => RCD X c (offN i.castSucc p)) ∗ LOOP X Wv c (i.val + 1))
      (groupMid (F := F) c i) := by
  have hi := i.isLt
  have h1 : j8 (i.val + 1) = i.castSucc.succ := Fin.ext (by show (i.val + 1) % 8 = i.val + 1; omega)
  have h2 : j8 (i.val + 1 + 1) = i.succ.succ := Fin.ext (by show (i.val + 1 + 1) % 8 = i.val + 1 + 1; omega)
  have hg : B4 (GF (F := F) c (j8 i.val)) = B4 (GF c i.succ.succ) :=
    bigSep_congr fun p _ => GF_congr c (by show i.val % 8 % 2 = (i.val + 1 + 1) % 2; omega) p
  intro k Q
  unfold LOOP groupMid
  rw [h2, h1, hg]
  iintro ⟨⟨⟨HW, HR⟩, HF, HG, HA, Ho, HO⟩, Hk⟩
  iapply (tr_wstarts Wv c i.succ.succ _ Q)
  isplitl [HW HG]
  · isplitl [HW]; · iexact HW
    iexact HG
  iintro HF2
  iapply (tr_groupTail X Wv c i.castSucc _ Q)
  isplitl [HR HF HA Ho HO]
  · isplitl [HR]; · iexact HR
    isplitl [HF]; · iexact HF
    isplitl [HA]; · iexact HA
    isplitl [Ho]; · iexact Ho
    iexact HO
  iintro ⟨HR, HW, HG, HA, Ho, HO⟩
  iapply Hk
  isplitl [HR HW]
  · isplitl [HW]; · iexact HW
    iexact HR
  isplitl [HF2]; · iexact HF2
  isplitl [HG]; · iexact HG
  isplitl [HA]; · iexact HA
  isplitl [Ho]; · iexact Ho
  iexact HO

theorem tr_groups (c : Dev nD) :
    Tr c iprop(((bigSep Finset.univ fun i : Fin 6 => B4 (WB Wv c i.succ.succ)) ∗ bigSep Finset.univ fun i : Fin 6 => B4 fun p => RCV X c (offN i.castSucc p))
        ∗ LOOP X Wv c 0)
      iprop(((bigSep Finset.univ fun i : Fin 6 => B4 (WB Wv c i.castSucc.succ)) ∗ bigSep Finset.univ fun i : Fin 6 => B4 fun p => RCD X c (offN i.castSucc p))
        ∗ LOOP X Wv c 6)
      (seqFin 6 (groupMid (F := F) c)) := by
  have h := Tr.loop (c := c) 6 (groupMid (F := F) c) _ _ (LOOP X Wv c) (fun i => tr_groupMid X Wv c i)
  rw [bigSep_sep', bigSep_sep'] at h
  exact h

/-! ## The offsets by groups -/

/-- An offset is one of the first group's three or a part of a later group's. -/
def offAt : Fin 3 ⊕ Fin 7 × Fin 4 → Fin 31
  | .inl p => off0 p
  | .inr jp => offN jp.1 jp.2

theorem offAt_bijective : Function.Bijective offAt := by decide +kernel

theorem by_groups (Φ : Fin 31 → sProp 𝕄) :
    B31 Φ = iprop((bigSep Finset.univ fun p : Fin 3 => Φ (off0 p))
      ∗ ((bigSep Finset.univ fun i : Fin 6 => B4 fun p => Φ (offN i.castSucc p)) ∗ B4 fun p => Φ (offN 6 p))) := by
  show bigSep Finset.univ Φ = _
  rw [bigSep_univ_equiv (Equiv.ofBijective offAt offAt_bijective) Φ, bigSep_univ_sum]
  refine congrArg (fun R => iprop((bigSep Finset.univ fun p : Fin 3 => Φ (off0 p)) ∗ R)) ?_
  rw [bigSep_univ_prod, bigSep_castSucc]
  rfl

theorem groups_open (Φ : Fin 8 → sProp 𝕄) : bigSep Finset.univ Φ = iprop(Φ 0 ∗ Φ 1 ∗ bigSep Finset.univ fun i : Fin 6 => Φ i.succ.succ) := by
  rw [bigSep_succ, bigSep_succ]; rfl
theorem groups_close (Φ : Fin 8 → sProp 𝕄) :
    bigSep Finset.univ Φ = iprop(Φ 0 ∗ (bigSep Finset.univ fun i : Fin 6 => Φ i.castSucc.succ) ∗ Φ 7) := by
  rw [bigSep_succ, bigSep_castSucc]; rfl

/-! ## The body -/

/-- What the body takes. -/
def PRE (c : Dev nD) : sProp 𝕄 :=
  iprop(B31 (SIG X c) ∗ (inv X (barCell c) ∗ cred (tallyAt (barCell c) () 31) ∗ atPos ER (barCell c) 0 ∅ 0 ∗ levAts L lv)
    ∗ B31 (SND X c) ∗ B31 (SNT X c) ∗ B31 (RCV X c) ∗ (bigSep Finset.univ fun j : Fin 8 => B4 (WB Wv c j)) ∗ B4 (GF c 0) ∗ B4 (GF c 1)
    ∗ XO X c ∗ B4 (AF c) ∗ (∃ o, oPts c o) ∗ Own c (O₀ c))
/-- What it leaves. -/
def POST (c : Dev nD) : sProp 𝕄 :=
  iprop(semVal (barCell c) 0 ∗ B31 (fun d => iprop(sendPay X c d ∗ semVal (sendCell c d) 0)) ∗ B31 (RCD X c)
    ∗ (bigSep Finset.univ fun j : Fin 8 => B4 (WB Wv c j)) ∗ B4 (GF c 0) ∗ B4 (GF c 1)
    ∗ XO X c ∗ B4 (AF c) ∗ oPts c (Ov X Wv c 7) ∗ Own c 0)

theorem tr_sigs (c : Dev nD) : Tr c iprop(B31 (SIG X c) ∗ Own c (O₀ c)) (Own c (tail (owR c) 0)) (seqFin 31 (sigStep (F := F) c)) := by
  have h := Tr.loop (c := c) 31 (sigStep (F := F) c) (SIG X c) (fun _ => iprop(emp)) (fun i => Own c (tail (owR c) 0 + tail (owB c) i))
    (fun d => tr_sig X c d _ _ (by rw [tail_step (owB c) d, add_assoc]))
  rw [tail_end, add_zero] at h
  refine h.conseq (BI.Entails.refl _) ?_
  iintro ⟨-, H⟩; iexact H

theorem tr_sends (c : Dev nD) :
    Tr c iprop((B31 (SND X c) ∗ B31 (barPay c)) ∗ Own c (tail (owR c) 0)) iprop((B31 fun d => cred (tallyAt (sendCell c d) () NB)) ∗ Own c 0)
      (seqFin 31 (sendStep (F := F) c)) := by
  have h := Tr.loop (c := c) 31 (sendStep (F := F) c) (fun d => iprop(SND X c d ∗ barPay c d)) _ (fun i => Own c (tail (owR c) i))
    (fun d => tr_send X c d)
  rw [tail_end, bigSep_sep'] at h
  exact h

theorem tr_sents (c : Dev nD) :
    Tr c iprop((B31 (SNT X c) ∗ B31 fun d => cred (tallyAt (sendCell c d) () NB)) ∗ Own c 0)
      iprop(B31 (fun d => iprop(sendPay X c d ∗ semVal (sendCell c d) 0)) ∗ Own c 0) (seqFin 31 (sentStep (F := F) c)) := by
  have h := Tr.loop' (c := c) 31 (sentStep (F := F) c) (fun d => iprop(SNT X c d ∗ cred (tallyAt (sendCell c d) () NB))) _ (Own c 0)
    (fun d => tr_sent X c d)
  rw [bigSep_sep' _ (SNT X c)] at h
  exact h

/-- The body runs. -/
theorem wp_body (c : Dev nD) (Q : PUnit → sProp 𝕄) :
    iprop(PRE X Wv c ∗ (POST X Wv c -∗ Q ⟨⟩)) ⊢ wp frame (wpE (defs₀ (F := F)) 𝒱₀ (c : Thread nD τ) none) Set.univ (bodyC (F := F) c) Q := by
  unfold PRE POST bodyC
  rw [by_groups (RCV X c), groups_open (fun j => B4 (WB Wv c j))]
  iintro ⟨⟨HSig, HBar, HSnd, HSnt, ⟨HR0, HRm, HR6⟩, ⟨HW0, HW1, HWm⟩, HG0, HG1, HX, HA, Ho, HO⟩, Hk⟩
  iapply (tr_wstarts Wv c 0 _ Q)
  isplitl [HW0 HG0]
  · isplitl [HW0]; · iexact HW0
    iexact HG0
  iintro HF0
  iapply (tr_sigs X c _ Q)
  isplitl [HSig HO]
  · isplitl [HSig]; · iexact HSig
    iexact HO
  iintro HO
  iapply (tr_bar X c _ Q)
  isplitl [HBar HO]
  · isplitl [HBar]; · iexact HBar
    iexact HO
  iintro ⟨⟨HP, Hz⟩, HO⟩
  iapply (tr_sends X c _ Q)
  isplitl [HSnd HP HO]
  · isplitl [HSnd HP]
    · isplitl [HSnd]; · iexact HSnd
      iexact HP
    iexact HO
  iintro ⟨HC, HO⟩
  iapply (tr_group0 X Wv c _ Q)
  isplitl [HR0 HW1 HG1 HF0 HX HA Ho HO]
  · isplitl [HR0]; · iexact HR0
    isplitl [HW1]; · iexact HW1
    isplitl [HG1]; · iexact HG1
    isplitl [HF0]; · iexact HF0
    isplitl [HX]; · iexact HX
    isplitl [HA]; · iexact HA
    isplitl [Ho]; · iexact Ho
    iexact HO
  iintro ⟨HR0, HW0, HG0, HF1, HX, HA, Ho, HO⟩
  iapply (tr_groups X Wv c _ Q)
  unfold LOOP
  rw [show j8 (0 + 1) = 1 from rfl, show j8 0 = 0 from rfl, show j8 (6 + 1) = 7 from rfl, show j8 6 = 6 from rfl]
  isplitl [HWm HRm HF1 HG0 HA Ho HO]
  · isplitl [HWm HRm]
    · isplitl [HWm]; · iexact HWm
      iexact HRm
    isplitl [HF1]; · iexact HF1
    isplitl [HG0]; · iexact HG0
    isplitl [HA]; · iexact HA
    isplitl [Ho]; · iexact Ho
    iexact HO
  iintro ⟨⟨HWm, HRm⟩, HF7, HG6, HA, Ho, HO⟩
  iapply (tr_groupTail X Wv c 6 _ Q)
  rw [show (6 : Fin 7).succ = (7 : Fin 8) from rfl, show (6 : Fin 7).val = 6 from rfl]
  isplitl [HR6 HF7 HA Ho HO]
  · isplitl [HR6]; · iexact HR6
    isplitl [HF7]; · iexact HF7
    isplitl [HA]; · iexact HA
    isplitl [Ho]; · iexact Ho
    iexact HO
  iintro ⟨HR6, HW7, HG7, HA, Ho, HO⟩
  iapply (tr_sents X c _ Q)
  isplitl [HSnt HC HO]
  · isplitl [HSnt HC]
    · isplitl [HSnt]; · iexact HSnt
      iexact HC
    iexact HO
  iintro ⟨HS, HO⟩
  rw [wp_ret]
  imodintro
  iapply Hk
  rw [by_groups (RCD X c)]
  isplitl [Hz]; · iexact Hz
  isplitl [HS]; · iexact HS
  isplitl [HR0 HRm HR6]
  · isplitl [HR0]; · iexact HR0
    isplitl [HRm]; · iexact HRm
    iexact HR6
  isplitl [HW0 HWm HW7]
  · iapply (Entails.of_eq ((groups_close (fun j => B4 (WB Wv c j))).symm.trans (groups_open _)))
    isplitl [HW0]; · iexact HW0
    isplitl [HWm]; · iexact HWm
    iexact HW7
  isplitl [HG6]
  · iapply (Entails.of_eq (bigSep_congr fun p _ => GF_congr (F := F) c (j := 6) (j' := 0) rfl p)); iexact HG6
  isplitl [HG7]
  · iapply (Entails.of_eq (bigSep_congr fun p _ => GF_congr (F := F) c (j := 7) (j' := 1) rfl p)); iexact HG7
  isplitl [HX]; · iexact HX
  isplitl [HA]; · iexact HA
  isplitl [Ho]; · iexact Ho
  iexact HO

end Cert.KernelIdeal.A2A
-- ==== Proof.IGhost.lean ====
/-
The exchange's resources at launch: the cells' invariants made, every device given the tokens of the duties it pays
and the credits of what it awaits.
-/
module

public import proofs.«01_k».proof.Proof.IBody

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (X : Dev nD → Vec F S8192x256 .bf16)

/-! ## The kernel's own semaphores -/

/-- The sends, the receives, the weights' copies. -/
abbrev OK : Type := Fin 31 ⊕ (Fin 31 ⊕ (Fin 2 × Fin 4))
/-- The first group using a slot. -/
def slotG (s : Fin 2) : Fin 8 := ⟨s.val, by omega⟩
def osemD : OK → DmaSem sig
  | .inl d => sendS d
  | .inr (.inl d) => recvS d
  | .inr (.inr (s, p)) => wS (slotG s) p
def osem (k : OK) : SemLoc sig := .dma (osemD k)

theorem osemD_val (k : OK) : (osemD k).val = match k with
    | .inl d => 2 + d.val
    | .inr (.inl d) => 33 + d.val
    | .inr (.inr (s, p)) => 64 + 4 * s.val + p.val := by
  rcases k with d | d | ⟨s, p⟩
  · exact sendS_val d
  · exact recvS_val d
  · refine (wS_val _ _).trans ?_
    show 64 + 4 * (s.val % 2) + p.val = _
    rw [Nat.mod_eq_of_lt s.isLt]

theorem osemD_injective : Function.Injective osemD := by
  intro k k' h
  have hv := congrArg Fin.val h
  rw [osemD_val, osemD_val] at hv
  rcases k with d | d | ⟨s, p⟩ <;> rcases k' with d' | d' | ⟨s', p'⟩ <;> dsimp only at hv
  · rw [show d = d' from Fin.ext (by omega)]
  · have := d.isLt; omega
  · have := d.isLt; omega
  · have := d'.isLt; omega
  · rw [show d = d' from Fin.ext (by omega)]
  · have := d.isLt; omega
  · have := d'.isLt; omega
  · have := d'.isLt; omega
  · have := p.isLt; have := p'.isLt
    rw [show s = s' from Fin.ext (by omega), show p = p' from Fin.ext (by omega)]

theorem osemD_ge (k : OK) : 2 ≤ (osemD k).val := by
  rw [osemD_val]
  rcases k with d | d | ⟨s, p⟩ <;> dsimp only <;> omega

theorem stage_lt : ∀ w s, ((cfg0.spec w).sem s).val < 2 := by decide
theorem osem_isScoped : ∀ k, (osem k).isScoped .tc = true := by decide +kernel

theorem ownSemFacts : Pipeline.OwnSemFacts cfg0.spec osem where
  isScoped := osem_isScoped
  inj := fun k k' h => osemD_injective (by unfold osem at h; exact SemLoc.dma.inj h)
  disj := fun k => by
    intro w s h
    have h' : osemD k = (cfg0.spec w).sem s := SemLoc.dma.inj h
    have := stage_lt w s
    have := osemD_ge k
    rw [← h'] at *
    omega

/-! ## The tokens -/

/-- The duties of one device's cells: its barrier's 31, one of each send, one of each receive. -/
abbrev TK : Type := Fin 31 ⊕ (Fin 31 ⊕ Fin 31)
def ckOf : TK → CK
  | .inl _ => .inl ()
  | .inr k => .inr k
def dutyOf : TK → Fin 31
  | .inl e => e
  | .inr _ => 0
abbrev tokOf (ct : Dev nD × TK) : GSem nD τ sig × ℕ × Fin 31 := (kcell (ct.1, ckOf ct.2), 0, dutyOf ct.2)

theorem tokOf_injective : Function.Injective tokOf := by
  rintro ⟨c, t⟩ ⟨c', t'⟩ h
  have h1 := kcell_injective (congrArg Prod.fst h)
  have hc : c = c' := congrArg Prod.fst h1
  have hk : ckOf t = ckOf t' := congrArg Prod.snd h1
  have hd : dutyOf t = dutyOf t' := congrArg (fun x => x.2.2) h
  have ht : t = t' := by
    rcases t with e | k <;> rcases t' with e' | k'
    · exact congrArg Sum.inl hd
    · cases hk
    · cases hk
    · exact congrArg Sum.inr (Sum.inr.inj hk)
  rw [hc, ht]

def exCells : Finset (GSem nD τ sig) := Finset.univ.map ⟨kcell, kcell_injective⟩
def exToks : Finset (GSem nD τ sig × ℕ × Fin 31) := Finset.univ.map ⟨tokOf, tokOf_injective⟩

def u₀ : UU :=
  (initOf (Pipeline.cells cfgs cellOf_inj) (Pipeline.launchToks cfgs cellOf_inj), (initOf exCells exToks, 1))

/-- The tokens of device `c`'s own cells, as minted; -/
def toks (c : Dev nD) : sProp 𝕄 := bigSep Finset.univ fun t : TK => dutyTok ER (kcell (c, ckOf t)) 0 (dutyOf t)

/-- cell by cell; -/
theorem toks_eq (c : Dev nD) : (toks c : sProp 𝕄)
    = iprop(B31 (fun e => dutyTok ER (barCell c) 0 e) ∗ B31 (fun d => dutyTok ER (sendCell c d) 0 (0 : Fin 31)) ∗ B31 (fun d => dutyTok ER (recvCell c d) 0 (0 : Fin 31))) := by
  unfold toks
  rw [bigSep_univ_sum, bigSep_univ_sum]
  rfl

/-- the tokens of the duties it pays. -/
def payToks (c : Dev nD) : sProp 𝕄 :=
  iprop(B31 (fun d => dutyTok ER (barCell (peer c d)) 0 d.rev) ∗ B31 (fun d => dutyTok ER (sendCell c d) 0 (0 : Fin 31))
    ∗ B31 (fun d => dutyTok ER (recvCell (peer c d) d) 0 (0 : Fin 31)))

/-- The signal from `c` at offset `d + 1` is the one its peer there awaits from the offset counted back. -/
def barE : Dev nD × Fin 31 ≃ Dev nD × Fin 31 where
  toFun x := (peer x.1 x.2, x.2.rev)
  invFun x := (peer x.1 x.2, x.2.rev)
  left_inv x := by
    obtain ⟨c, d⟩ := x
    show (peer (peer c d) d.rev, d.rev.rev) = (c, d)
    rw [peer_peer_rev, Fin.rev_rev]
  right_inv x := by
    obtain ⟨c, d⟩ := x
    show (peer (peer c d) d.rev, d.rev.rev) = (c, d)
    rw [peer_peer_rev, Fin.rev_rev]

/-- The transfer from `c` at offset `d + 1` is the one its peer there receives at that offset. -/
def recvE : Dev nD × Fin 31 ≃ Dev nD × Fin 31 where
  toFun x := (peer x.1 x.2, x.2)
  invFun x := (src x.1 x.2, x.2)
  left_inv x := by
    obtain ⟨c, d⟩ := x
    show (src (peer c d) d, d) = (c, d)
    rw [src_peer]
  right_inv x := by
    obtain ⟨c, d⟩ := x
    show (peer (src c d) d, d) = (c, d)
    rw [peer_src]

/-- A family over devices and offsets, dealt by an exchange of them. -/
theorem deal (e : Dev nD × Fin 31 ≃ Dev nD × Fin 31) (Φ : Dev nD → Fin 31 → sProp 𝕄) :
    (bigSep Finset.univ fun c => bigSep Finset.univ fun d => Φ c d) = bigSep Finset.univ fun c => bigSep Finset.univ fun d => Φ (e (c, d)).1 (e (c, d)).2 := by
  rw [← bigSep_univ_prod (fun x : Dev nD × Fin 31 => Φ x.1 x.2), bigSep_univ_equiv e, bigSep_univ_prod]

/-- The tokens dealt out. -/
theorem toks_dealt : (bigSep Finset.univ fun c : Dev nD => (toks c : sProp 𝕄)) = bigSep Finset.univ fun c : Dev nD => payToks c := by
  rw [bigSep_congr fun c _ => toks_eq (F := F) c]
  unfold payToks
  rw [bigSep_sep', bigSep_sep', bigSep_sep', bigSep_sep',
    deal barE (fun c d => dutyTok ER (barCell c) 0 d), deal recvE (fun c d => dutyTok ER (recvCell c d) 0 (0 : Fin 31))]
  rfl

/-! ## What the launch element deals, and what is made of it -/

def G (c : Dev nD) : sProp 𝕄 :=
  iprop((bigSep Finset.univ fun k : CK => roundState ER (sched X) (kcell (c, k)) 0)
    ∗ (bigSep Finset.univ fun k : CK => iprop(atPos ER (kcell (c, k)) 0 ∅ 0 ∗ reached ER (kcell (c, k)) 0)) ∗ toks c)

theorem fund : BI.own (ER (initOf exCells exToks)) ⊢ (|==> bigSep Finset.univ (G X) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (sched X) exCells exToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The counters of the weights' copies, at zero. -/
def WZ (c : Dev nD) : sProp 𝕄 := iprop(B4 (fun p => semVal (wCell c 0 p) 0) ∗ B4 (fun p => semVal (wCell c 1 p) 0))

theorem bigSep_two (Φ : Fin 2 → sProp 𝕄) : bigSep Finset.univ Φ = iprop(Φ 0 ∗ Φ 1) := bigSep_univ_eq_bigSepL [0, 1] (by decide) (by decide) Φ

theorem ownSems0_eq (c : Dev nD) : (Pipeline.ownSems0 (Ix := Unit) (Name := ℕ) (U := UU) (Lvl := ℕ) (Val := Elt F) (τ := τ) osem c : sProp 𝕄)
    = iprop(B31 (fun d => semVal (sendCell c d) 0) ∗ B31 (fun d => semVal (recvCell c d) 0) ∗ WZ c) := by
  unfold Pipeline.ownSems0
  rw [bigSep_univ_sum, bigSep_univ_sum, bigSep_univ_prod, bigSep_two]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ksems_eq (c : Dev nD) : (bigSep Finset.univ fun k : CK => (semVal (kcell (c, k)) 0 : sProp 𝕄))
    = iprop(semVal (barCell c) 0 ∗ B31 (fun d => semVal (sendCell c d) 0) ∗ B31 (fun d => semVal (recvCell c d) 0)) := by
  rw [bigSep_univ_sum, bigSep_univ_sum, show (Finset.univ : Finset Unit) = {()} from rfl, bigSep_singleton]
  rfl

theorem kpos_eq (c : Dev nD) : (bigSep Finset.univ fun k : CK => (atPos ER (kcell (c, k)) 0 ∅ 0 : sProp 𝕄))
    = iprop(atPos ER (barCell c) 0 ∅ 0 ∗ B31 (fun d => atPos ER (sendCell c d) 0 ∅ 0) ∗ B31 (fun d => atPos ER (recvCell c d) 0 ∅ 0)) := by
  rw [bigSep_univ_sum, bigSep_univ_sum, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : CK => inv X (kcell (c, k)))
          ∗ (bigSep Finset.univ fun k : CK => reached ER (kcell (c, k)) 0)
          ∗ ((bigSep Finset.univ fun k : CK => atPos ER (kcell (c, k)) 0 ∅ 0) ∗ WZ c) ∗ toks c) := by
  unfold G
  rw [ownSems0_eq, unscopedSems0_eq, bigSep_sep']
  iintro ⟨⟨HS, HR, HW⟩, HB, Hst, ⟨Hat, Hre⟩, Htok⟩
  ihave Hv := (Entails.of_eq (ksems_eq (F := F) c).symm) $$ [HS HR HB]
  · isplitl [HB]; · iexact HB
    isplitl [HS] <;> iassumption
  imod (show iprop((bigSep Finset.univ fun k : CK => semVal (kcell (c, k)) 0) ∗ bigSep Finset.univ fun k : CK => roundState ER (sched X) (kcell (c, k)) 0)
      ⊢ (|={Set.univ}=> bigSep Finset.univ fun k => inv X (kcell (c, k)) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat HW]
  · isplitl [Hat] <;> iassumption
  iexact Htok

/-- What every device may know of every cell. -/
def records : sProp 𝕄 :=
  iprop((bigSep Finset.univ fun ck : Dev nD × CK => inv X (kcell ck)) ∗ bigSep Finset.univ fun ck : Dev nD × CK => reached ER (kcell ck) 0)
instance records_persistent : BI.Persistent (records (F := F) X) := by unfold records; infer_instance

theorem rec_at (ck : Dev nD × CK) : records (F := F) X ⊢ iprop(inv X (kcell ck) ∗ reached ER (kcell ck) 0) := by
  have h1 : (bigSep Finset.univ fun ck : Dev nD × CK => (inv X (kcell ck) : sProp 𝕄)) ⊢ inv X (kcell ck) := bigSep_elim (Finset.mem_univ ck)
  have h2 : (bigSep Finset.univ fun ck : Dev nD × CK => (reached ER (kcell ck) 0 : sProp 𝕄)) ⊢ reached ER (kcell ck) 0 := bigSep_elim (Finset.mem_univ ck)
  unfold records
  iintro ⟨H1, H2⟩
  isplitl [H1]
  · iapply h1; iexact H1
  · iapply h2; iexact H2

/-- What a signal takes at launch, -/
def gSIG (c : Dev nD) (d : Fin 31) : sProp 𝕄 :=
  iprop(inv X (barCell (peer c d)) ∗ reached ER (barCell (peer c d)) 0 ∗ dutyTok ER (barCell (peer c d)) 0 d.rev)
/-- a transfer, -/
def gSND (c : Dev nD) (d : Fin 31) : sProp 𝕄 :=
  iprop(inv X (sendCell c d) ∗ inv X (recvCell (peer c d) d) ∗ reached ER (sendCell c d) 0 ∗ reached ER (recvCell (peer c d) d) 0
    ∗ dutyTok ER (sendCell c d) 0 (0 : Fin 31) ∗ dutyTok ER (recvCell (peer c d) d) 0 (0 : Fin 31))
/-- a wait for one. -/
def gRCV (c : Dev nD) (d : Fin 31) : sProp 𝕄 := iprop(inv X (recvCell c d) ∗ atPos ER (recvCell c d) 0 ∅ 0)

/-- What a device starts from. -/
def G' (c : Dev nD) : sProp 𝕄 :=
  iprop(B31 (gSIG X c) ∗ (inv X (barCell c) ∗ atPos ER (barCell c) 0 ∅ 0) ∗ B31 (gSND X c) ∗ B31 (SNT X c) ∗ B31 (gRCV X c) ∗ WZ c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem mk_gSIG (c : Dev nD) (d : Fin 31) : iprop(records X ∗ dutyTok ER (barCell (peer c d)) 0 d.rev) ⊢ (gSIG X c d : sProp 𝕄) := by
  unfold gSIG
  iintro ⟨#H, Ht⟩
  ihave H1 := (rec_at X (peer c d, .inl ())) $$ H
  icases H1 with ⟨Hi, Hr⟩
  isplitl [Hi]; · iexact Hi
  isplitl [Hr]; · iexact Hr
  iexact Ht
theorem mk_gSND (c : Dev nD) (d : Fin 31) :
    iprop(records X ∗ (dutyTok ER (sendCell c d) 0 (0 : Fin 31) ∗ dutyTok ER (recvCell (peer c d) d) 0 (0 : Fin 31))) ⊢ (gSND X c d : sProp 𝕄) := by
  unfold gSND
  iintro ⟨#H, Ht, Ht'⟩
  ihave H1 := (rec_at X (c, .inr (.inl d))) $$ H
  icases H1 with ⟨Hi, Hr⟩
  ihave H2 := (rec_at X (peer c d, .inr (.inr d))) $$ H
  icases H2 with ⟨Hi', Hr'⟩
  isplitl [Hi]; · iexact Hi
  isplitl [Hi']; · iexact Hi'
  isplitl [Hr]; · iexact Hr
  isplitl [Hr']; · iexact Hr'
  isplitl [Ht] <;> iassumption
theorem mk_SNT (c : Dev nD) (d : Fin 31) : iprop(records X ∗ atPos ER (sendCell c d) 0 ∅ 0) ⊢ (SNT X c d : sProp 𝕄) := by
  unfold SNT
  iintro ⟨#H, Ht⟩
  ihave H1 := (rec_at X (c, .inr (.inl d))) $$ H
  icases H1 with ⟨Hi, Hr⟩
  isplitl [Hi]; · iexact Hi
  iexact Ht
theorem mk_gRCV (c : Dev nD) (d : Fin 31) : iprop(records X ∗ atPos ER (recvCell c d) 0 ∅ 0) ⊢ (gRCV X c d : sProp 𝕄) := by
  unfold gRCV
  iintro ⟨#H, Ht⟩
  ihave H1 := (rec_at X (c, .inr (.inr d))) $$ H
  icases H1 with ⟨Hi, Hr⟩
  isplitl [Hi]; · iexact Hi
  iexact Ht

theorem ghost_intro (c : Dev nD) :
    iprop(records X ∗ (((bigSep Finset.univ fun k : CK => atPos ER (kcell (c, k)) 0 ∅ 0) ∗ WZ c) ∗ payToks c)) ⊢ (G' X c : sProp 𝕄) := by
  have hsnd : (iprop(B31 (fun d => dutyTok ER (sendCell c d) 0 (0 : Fin 31)) ∗ B31 (fun d => dutyTok ER (recvCell (peer c d) d) 0 (0 : Fin 31))) : sProp 𝕄)
      = bigSep Finset.univ fun d => iprop(dutyTok ER (sendCell c d) 0 (0 : Fin 31) ∗ dutyTok ER (recvCell (peer c d) d) 0 (0 : Fin 31)) :=
    (bigSep_sep' _ _ _).symm
  unfold payToks G'
  rw [kpos_eq]
  iintro ⟨#H, ⟨⟨HaB, HaS, HaR⟩, HW⟩, HtB, HtS, HtR⟩
  isplitl [HtB]
  · iapply (with_persistent (R := records X) fun d _ => mk_gSIG X c d)
    isplitr; · iexact H
    iexact HtB
  isplitl [HaB]
  · ihave H1 := (rec_at X (c, .inl ())) $$ H
    icases H1 with ⟨Hi, Hr⟩
    isplitl [Hi]; · iexact Hi
    iexact HaB
  isplitl [HtS HtR]
  · iapply (with_persistent (R := records X) fun d _ => mk_gSND X c d)
    isplitr; · iexact H
    iapply (Entails.of_eq hsnd)
    isplitl [HtS] <;> iassumption
  isplitl [HaS]
  · iapply (with_persistent (R := records X) fun d _ => mk_SNT X c d)
    isplitr; · iexact H
    iexact HaS
  isplitl [HaR]
  · iapply (with_persistent (R := records X) fun d _ => mk_gRCV X c d)
    isplitr; · iexact H
    iexact HaR
  iexact HW

theorem sep_pair (P Q R : sProp 𝕄) : iprop(P ∗ Q ∗ R) ⊢ iprop((P ∗ Q) ∗ R) := by
  iintro ⟨H1, H2, H3⟩
  isplitl [H1 H2]
  · isplitl [H1] <;> iassumption
  iexact H3

theorem regroup :
    (bigSep Finset.univ fun c : Dev nD => iprop((bigSep Finset.univ fun k : CK => inv X (kcell (c, k)))
          ∗ (bigSep Finset.univ fun k : CK => reached ER (kcell (c, k)) 0)
          ∗ ((bigSep Finset.univ fun k : CK => atPos ER (kcell (c, k)) 0 ∅ 0) ∗ WZ c) ∗ toks c) : sProp 𝕄)
      ⊢ bigSep Finset.univ (G' X) := by
  rw [bigSep_sep', bigSep_sep', bigSep_sep', toks_dealt, ← bigSep_univ_prod (fun ck : Dev nD × CK => (inv X (kcell ck) : sProp 𝕄)),
    ← bigSep_univ_prod (fun ck : Dev nD × CK => (reached ER (kcell ck) 0 : sProp 𝕄)), ← bigSep_sep']
  refine BI.Entails.trans ?_ (with_persistent (R := records X) fun c _ => ghost_intro X c)
  unfold records
  exact sep_pair _ _ _

/-- Every device's counters at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem bar_eq_iff {a b : Dev nD} : Iff (barCell a = barCell b) (a = b) :=
  ⟨fun h => congrArg (fun ck : Dev nD × CK => ck.1) (kcell_injective (a₁ := (a, .inl ())) (a₂ := (b, .inl ())) h), fun h => h ▸ rfl⟩
theorem recv_eq_iff {a b : Dev nD} {d e : Fin 31} : Iff (recvCell a d = recvCell b e) (a = b ∧ d = e) :=
  ⟨fun h => by
      have h' := kcell_injective (a₁ := (a, .inr (.inr d))) (a₂ := (b, .inr (.inr e))) h
      exact ⟨congrArg Prod.fst h', Sum.inr.inj (Sum.inr.inj (congrArg Prod.snd h'))⟩,
    fun h => by rw [h.1, h.2]⟩
theorem recv_ne_bar {a b : Dev nD} {d : Fin 31} : recvCell a d ≠ barCell b := fun h => by
  have h' := kcell_injective (a₁ := (a, .inr (.inr d))) (a₂ := (b, .inl ())) h
  cases congrArg Prod.snd h'

theorem O₀_at (s : Dev nD) (g : GSem nD τ sig) :
    O₀ s g () = (∑ d, if g = recvCell (peer s d) d then NB else 0) + ∑ d, if g = barCell (peer s d) then 1 else 0 := by
  unfold O₀
  rw [Pi.add_apply, Finsupp.add_apply, tail_zero, tail_zero, Finset.sum_apply, Finsupp.finset_sum_apply, Finset.sum_apply, Finsupp.finset_sum_apply]
  unfold owR owB
  refine congrArg₂ _ (Finset.sum_congr rfl fun d _ => ?_) (Finset.sum_congr rfl fun d _ => ?_)
  · rw [tallyAt_apply]; exact if_congr (and_iff_left rfl) rfl rfl
  · rw [tallyAt_apply]; exact if_congr (and_iff_left rfl) rfl rfl

theorem eq_peer_iff {s c : Dev nD} {d : Fin 31} : Iff (c = peer s d) (s = src c d) :=
  ⟨fun h => by rw [h, src_peer], fun h => by rw [h, peer_src]⟩

/-- All the devices' signals to one: 31 units; -/
theorem owed_bar (c : Dev nD) : ∑ s, O₀ s (barCell c) () = 31 := by
  rw [Finset.sum_congr rfl fun s _ => O₀_at s (barCell c), Finset.sum_add_distrib,
    Finset.sum_congr rfl fun s _ => Finset.sum_congr rfl fun d _ => if_neg fun h => recv_ne_bar h.symm, Finset.sum_comm (f := fun s d => if barCell c = barCell (peer s d) then 1 else 0),
    Finset.sum_congr (s₁ := (Finset.univ : Finset (Fin 31))) rfl fun d _ =>
      (Finset.sum_congr rfl fun s _ => if_congr (bar_eq_iff.trans eq_peer_iff) rfl rfl).trans
        ((Finset.sum_ite_eq' Finset.univ (src c d) fun _ => 1).trans (if_pos (Finset.mem_univ _)))]
  simp

/-- the transfer to one at an offset. -/
theorem owed_recv (c : Dev nD) (e : Fin 31) : ∑ s, O₀ s (recvCell c e) () = NB := by
  have h1 (s : Dev nD) : O₀ s (recvCell c e) () = if s = src c e then NB else 0 := by
    rw [O₀_at, Finset.sum_congr (f := fun d => if recvCell c e = barCell (peer s d) then 1 else 0) rfl fun d _ => if_neg fun h => recv_ne_bar h,
      Finset.sum_const_zero, Nat.add_zero,
      Finset.sum_congr (g := fun d => if d = e then (if s = src c e then NB else 0) else 0) rfl fun d _ => ?_]
    · exact (Finset.sum_ite_eq' Finset.univ e _).trans (if_pos (Finset.mem_univ _))
    · by_cases hd : d = e
      · subst hd
        rw [if_pos rfl]
        exact if_congr (recv_eq_iff.trans ((and_iff_left rfl).trans eq_peer_iff)) rfl rfl
      · rw [if_neg hd, if_neg fun h => hd (recv_eq_iff.mp h).2.symm]
  rw [Finset.sum_congr rfl fun s _ => h1 s]
  exact (Finset.sum_ite_eq' Finset.univ (src c e) _).trans (if_pos (Finset.mem_univ _))

theorem launch_at (g : GSem nD τ sig) (n : ℕ) (h : ∑ s, O₀ s g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The awaited cells' semaphores. -/
def awaited : Unit ⊕ Fin 31 → SemLoc sig
  | .inl u => csem (.inl u)
  | .inr d => csem (.inr (.inr d))
theorem awaited_injective : Function.Injective awaited := by
  rintro (u | d) (u' | d') h
  · rfl
  · cases csem_injective (a₁ := .inl u) (a₂ := .inr (.inr d')) h
  · cases csem_injective (a₁ := .inr (.inr d)) (a₂ := .inl u') h
  · exact congrArg Sum.inr (Sum.inr.inj (Sum.inr.inj (csem_injective (a₁ := .inr (.inr d)) (a₂ := .inr (.inr d')) h)))

/-- A device's credit at launch: its barrier's units and every transfer to it. -/
theorem creds (c : Dev nD) :
    (Pipeline.launchCred O₀ c : sProp 𝕄) ⊢ iprop(cred (tallyAt (barCell c) () 31) ∗ B31 (fun d => cred (tallyAt (recvCell c d) () NB))) := by
  unfold Pipeline.launchCred
  refine (bigSep_subset (Finset.subset_univ (Finset.univ.map ⟨awaited, awaited_injective⟩))).trans ?_
  rw [bigSep_map, bigSep_univ_sum, show (Finset.univ : Finset Unit) = {()} from rfl, bigSep_singleton]
  refine Entails.of_eq (congrArg₂ BIBase.sep ?_ (bigSep_congr fun d _ => ?_))
  · exact congrArg _ (launch_at (barCell c) 31 (owed_bar c))
  · exact congrArg _ (launch_at (recvCell c d) NB (owed_recv c d))

end Cert.KernelIdeal.A2A
-- ==== Proof.IPieces.lean ====
/-
The buffers whole and in the pieces the body's steps take: what the body starts from and what it leaves, put in terms
of whole buffers.
-/
module

public import proofs.«01_k».proof.Proof.IGhost

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (X : Dev nD → Vec F S8192x256 .bf16) (Wv : Dev nD → Vec F S8192x4096 .f32)

/-! ## The buffers in pieces -/

theorem x_pieces (c : Dev nD) : (xPts c Finset.univ (X c) : sProp 𝕄) = iprop(XO X c ∗ B31 (sendPay X c)) := by
  unfold XO sendPay
  refine (pts_pieces (F := F) (ℓ := (c : Thread nD τ).loc cc0_stg0_0) (xCls c) (X c)).trans ((bigSep_succ _).trans ?_)
  refine congrArg₂ BIBase.sep rfl (bigSep_congr fun d _ => ?_)
  rw [set_xSrc]
  rfl

/-- The rows of the buffer no peer fills. -/
def BO (c : Dev nD) : sProp 𝕄 := iprop(∃ f, bPts (F := F) c (Finset.univ.filter (bCls c · = 0)) f)

theorem b_pieces (c : Dev nD) : (iprop(∃ f, bPts (F := F) c Finset.univ f) : sProp 𝕄)
    ⊢ iprop(BO c ∗ B31 (fun d => iprop(∃ f, bPts (F := F) c (bufMine (peer c d)).view.set f))) := by
  have h (f : Vec F S8192x256 .bf16) : (bPts c Finset.univ f : sProp 𝕄) = iprop(bPts c (Finset.univ.filter (bCls c · = 0)) f ∗ B31 (fun d => bPts c (bufMine (peer c d)).view.set f)) := by
    refine (pts_pieces (F := F) (ℓ := (c : Thread nD τ).loc cc0_scratch0) (bCls c) f).trans ((bigSep_succ _).trans ?_)
    refine congrArg₂ BIBase.sep rfl ?_
    rw [bigSep_univ_equiv Fin.revPerm]
    refine bigSep_congr fun d _ => ?_
    rw [set_bufMine_peer]
    rfl
  have hm (f : Vec F S8192x256 .bf16) (d : Fin 31) : (bPts c (bufMine (peer c d)).view.set f : sProp 𝕄) ⊢ iprop(∃ f, bPts (F := F) c (bufMine (peer c d)).view.set f) := by
    iintro H; iexists f; iexact H
  unfold BO
  iintro ⟨%f, H⟩
  ihave H := (Entails.of_eq (h f)) $$ H
  icases H with ⟨H0, H⟩
  isplitl [H0]
  · iexists f; iexact H0
  iapply (show (B31 (fun d => bPts c (bufMine (peer c d)).view.set f) : sProp 𝕄) ⊢ B31 (fun d => iprop(∃ f, bPts (F := F) c (bufMine (peer c d)).view.set f)) from
    bigSep_mono fun d _ => hm f d)
  iexact H

theorem b_join (c : Dev nD) : (iprop(BO c ∗ B31 (recvPay X c)) : sProp 𝕄) ⊢ iprop(∃ f, bPts (F := F) c Finset.univ f) := by
  have hm (d : Fin 31) : (recvPay X c d : sProp 𝕄) ⊢ iprop(∃ f, bPts (F := F) c (Finset.univ.filter (bCls c · = d.succ)) f) := by
    unfold recvPay
    rw [set_bufFrom]
    iintro H; iexists (Bv X c); iexact H
  have hj := pts_join (F := F) (ℓ := (c : Thread nD τ).loc cc0_scratch0) (bCls c) (X c)
  rw [bigSep_succ] at hj
  refine BI.Entails.trans ?_ hj
  unfold BO
  exact sep_mono (BI.Entails.refl _) (bigSep_mono fun d _ => hm d)

theorem a_pieces (c : Dev nD) : (iprop(∃ f, aPts (F := F) c Finset.univ f) : sProp 𝕄) ⊢ B4 (AF c) := by
  have hm (f : Vec F S256x1024 .bf16) (p : Fin 4) : (aPts c (Finset.univ.filter (aCls · = p)) f : sProp 𝕄) ⊢ AF c p := by
    unfold AF
    rw [set_aRect]
    iintro H; iexists f; iexact H
  iintro ⟨%f, H⟩
  iapply (show (B4 (fun p => aPts c (Finset.univ.filter (aCls · = p)) f) : sProp 𝕄) ⊢ B4 (AF c) from bigSep_mono fun p _ => hm f p)
  iapply (Entails.of_eq (pts_pieces (F := F) (ℓ := (c : Thread nD τ).loc cc0_scratch1) aCls f))
  iexact H

theorem a_join [Nonempty (Vec F S256x1024 .bf16)] (c : Dev nD) : (B4 (AF c) : sProp 𝕄) ⊢ iprop(∃ f, aPts (F := F) c Finset.univ f) := by
  have hm (p : Fin 4) : (AF c p : sProp 𝕄) ⊢ iprop(∃ f, aPts (F := F) c (Finset.univ.filter (aCls · = p)) f) := by
    unfold AF
    rw [set_aRect]
  exact (bigSep_mono fun p _ => hm p).trans (pts_join (F := F) (ℓ := (c : Thread nD τ).loc cc0_scratch1) aCls (Classical.arbitrary _))

/-- A part of a slot of the weights' buffer, free. -/
def GP (c : Dev nD) (s : Fin 2) (p : Fin 4) : sProp 𝕄 := iprop(∃ f, gPts (F := F) c (Finset.univ.filter (gCls · = (s, p))) f)

theorem GF_eq (c : Dev nD) (s : Fin 2) (p : Fin 4) : (GF c (slotG s) p : sProp 𝕄) = iprop(GP c s p ∗ semVal (wCell c (slotG s) p) 0) := by
  unfold GF GP
  rw [set_wDst, show (⟨(slotG s).val % 2, by omega⟩ : Fin 2) = s from Fin.ext (Nat.mod_eq_of_lt s.isLt)]

theorem B4_GF (c : Dev nD) (s : Fin 2) : (B4 (GF c (slotG s)) : sProp 𝕄) = iprop(B4 (GP c s) ∗ B4 (fun p => semVal (wCell c (slotG s) p) 0)) := by
  show bigSep Finset.univ (fun p => GF c (slotG s) p) = _
  rw [bigSep_congr fun p _ => GF_eq c s p, bigSep_sep']

theorem g_slots (c : Dev nD) : (bigSep Finset.univ fun sp : Fin 2 × Fin 4 => (GP c sp.1 sp.2 : sProp 𝕄)) = iprop(B4 (GP c 0) ∗ B4 (GP c 1)) := by
  rw [bigSep_univ_prod, bigSep_two]

theorem g_whole (c : Dev nD) : (iprop(∃ f, gPts (F := F) c Finset.univ f) : sProp 𝕄) ⊢ bigSep Finset.univ fun sp : Fin 2 × Fin 4 => GP c sp.1 sp.2 := by
  have hm (f : Vec F S2x1024x4096 .f32) (sp : Fin 2 × Fin 4) : (gPts c (Finset.univ.filter (gCls · = sp)) f : sProp 𝕄) ⊢ GP c sp.1 sp.2 := by
    unfold GP
    iintro H; iexists f; iexact H
  iintro ⟨%f, H⟩
  iapply (show (bigSep Finset.univ (fun sp => gPts c (Finset.univ.filter (gCls · = sp)) f) : sProp 𝕄) ⊢ bigSep Finset.univ fun sp : Fin 2 × Fin 4 => GP c sp.1 sp.2 from
    bigSep_mono fun sp _ => hm f sp)
  iapply (Entails.of_eq (pts_pieces (F := F) (ℓ := (c : Thread nD τ).loc cc0_scratch2) gCls f))
  iexact H

theorem g_pieces (c : Dev nD) : (iprop((∃ f, gPts (F := F) c Finset.univ f) ∗ WZ c) : sProp 𝕄) ⊢ iprop(B4 (GF c 0) ∗ B4 (GF c 1)) := by
  have e0 : (B4 (GF c 0) : sProp 𝕄) = iprop(B4 (GP c 0) ∗ B4 (fun p => semVal (wCell c 0 p) 0)) := B4_GF c 0
  have e1 : (B4 (GF c 1) : sProp 𝕄) = iprop(B4 (GP c 1) ∗ B4 (fun p => semVal (wCell c 1 p) 0)) := B4_GF c 1
  rw [e0, e1]
  unfold WZ
  iintro ⟨H, HW0, HW1⟩
  ihave H := ((g_whole c).trans (Entails.of_eq (g_slots c))) $$ H
  icases H with ⟨H0, H1⟩
  isplitl [H0 HW0]
  · isplitl [H0] <;> iassumption
  · isplitl [H1] <;> iassumption

theorem g_join [Nonempty (Vec F S2x1024x4096 .f32)] (c : Dev nD) : (iprop(B4 (GF c 0) ∗ B4 (GF c 1)) : sProp 𝕄) ⊢ iprop((∃ f, gPts (F := F) c Finset.univ f) ∗ WZ c) := by
  have e0 : (B4 (GF c 0) : sProp 𝕄) = iprop(B4 (GP c 0) ∗ B4 (fun p => semVal (wCell c 0 p) 0)) := B4_GF c 0
  have e1 : (B4 (GF c 1) : sProp 𝕄) = iprop(B4 (GP c 1) ∗ B4 (fun p => semVal (wCell c 1 p) 0)) := B4_GF c 1
  have hm (sp : Fin 2 × Fin 4) : (GP c sp.1 sp.2 : sProp 𝕄) ⊢ iprop(∃ f, gPts (F := F) c (Finset.univ.filter (gCls · = sp)) f) := by
    unfold GP
    exact BI.Entails.refl _
  have hj : (bigSep Finset.univ (fun sp : Fin 2 × Fin 4 => GP c sp.1 sp.2) : sProp 𝕄) ⊢ iprop(∃ f, gPts (F := F) c Finset.univ f) :=
    (bigSep_mono fun sp _ => hm sp).trans (pts_join (F := F) (ℓ := (c : Thread nD τ).loc cc0_scratch2) gCls (Classical.arbitrary _))
  rw [e0, e1]
  unfold WZ
  iintro ⟨⟨H0, HW0⟩, H1, HW1⟩
  isplitl [H0 H1]
  · iapply hj
    iapply (Entails.of_eq (g_slots c).symm)
    isplitl [H0] <;> iassumption
  · isplitl [HW0] <;> iassumption

theorem w_pieces (c : Dev nD) : (wPts c Finset.univ (Wv c) : sProp 𝕄) = bigSep Finset.univ fun j : Fin 8 => B4 (WB Wv c j) := by
  refine (pts_pieces (F := F) (ℓ := (c : Thread nD τ).loc main_arg1) (wCls c) (Wv c)).trans ((bigSep_univ_prod _).trans ?_)
  refine bigSep_congr fun j _ => bigSep_congr fun p _ => ?_
  unfold WB
  rw [set_wSrc]
  rfl

/-! ## What the body starts from and what it leaves -/

/-- What device `c`'s body is given beside its buffers: its part of the exchange, its credits, the levels; the weights. -/
def start (c : Dev nD) : sProp 𝕄 :=
  iprop(G' X c ∗ (cred (tallyAt (barCell c) () 31) ∗ B31 (fun d => cred (tallyAt (recvCell c d) () NB))) ∗ levAts L lv ∗ wPts c Finset.univ (Wv c))

/-- Its scratch buffers. -/
def scr (c : Dev nD) : sProp 𝕄 :=
  iprop((∃ f, bPts (F := F) c Finset.univ f) ∗ (∃ f, aPts (F := F) c Finset.univ f) ∗ (∃ f, gPts (F := F) c Finset.univ f))

/-- Its counters. -/
def zeros (c : Dev nD) : sProp 𝕄 :=
  iprop(semVal (barCell c) 0 ∗ B31 (fun d => semVal (sendCell c d) 0) ∗ B31 (fun d => semVal (recvCell c d) 0) ∗ WZ c)

theorem mk_SIG (c : Dev nD) :
    (iprop(B31 (gSIG X c) ∗ B31 (fun d => iprop(∃ f, bPts (F := F) c (bufMine (peer c d)).view.set f))) : sProp 𝕄) ⊢ B31 (SIG X c) := by
  have h (d : Fin 31) : (iprop(gSIG X c d ∗ ∃ f, bPts (F := F) c (bufMine (peer c d)).view.set f) : sProp 𝕄) ⊢ SIG X c d := by
    unfold gSIG SIG
    iintro ⟨⟨H1, H2, H3⟩, H4⟩
    isplitl [H1]; · iexact H1
    isplitl [H2]; · iexact H2
    isplitl [H3]; · iexact H3
    iexact H4
  exact (Entails.of_eq (bigSep_sep' _ _ _).symm).trans (bigSep_mono fun d _ => h d)

theorem mk_SND (c : Dev nD) : (iprop(B31 (gSND X c) ∗ B31 (sendPay X c)) : sProp 𝕄) ⊢ B31 (SND X c) := by
  have h (d : Fin 31) : (iprop(gSND X c d ∗ sendPay X c d) : sProp 𝕄) ⊢ SND X c d := by
    unfold gSND SND
    iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7
  exact (Entails.of_eq (bigSep_sep' _ _ _).symm).trans (bigSep_mono fun d _ => h d)

theorem mk_RCV (c : Dev nD) : (iprop(B31 (gRCV X c) ∗ B31 (fun d => cred (tallyAt (recvCell c d) () NB))) : sProp 𝕄) ⊢ B31 (RCV X c) := by
  have h (d : Fin 31) : (iprop(gRCV X c d ∗ cred (tallyAt (recvCell c d) () NB)) : sProp 𝕄) ⊢ RCV X c d := by
    unfold gRCV RCV
    iintro ⟨⟨H1, H2⟩, H3⟩
    isplitl [H1]; · iexact H1
    isplitl [H2]; · iexact H2
    iexact H3
  exact (Entails.of_eq (bigSep_sep' _ _ _).symm).trans (bigSep_mono fun d _ => h d)

theorem pre_intro (c : Dev nD) :
    (iprop(start X Wv c ∗ scr c ∗ xPts c Finset.univ (X c) ∗ (∃ o, oPts c o) ∗ Own c (O₀ c)) : sProp 𝕄) ⊢ iprop(PRE X Wv c ∗ BO c) := by
  unfold start scr G' PRE
  rw [w_pieces, x_pieces]
  iintro ⟨⟨⟨HgS, ⟨HiB, HaB⟩, HgN, HsT, HgR, HW⟩, ⟨HcB, HcR⟩, Hlev, Hw⟩, ⟨Hb, Ha, Hg⟩, ⟨Hx, Hxs⟩, Ho, HO⟩
  ihave Hb := (b_pieces c) $$ Hb
  icases Hb with ⟨Hb0, Hb⟩
  isplitr [Hb0]
  · isplitl [HgS Hb]
    · iapply (mk_SIG X c); isplitl [HgS] <;> iassumption
    isplitl [HiB HaB HcB Hlev]
    · isplitl [HiB]; · iexact HiB
      isplitl [HcB]; · iexact HcB
      isplitl [HaB] <;> iassumption
    isplitl [HgN Hxs]
    · iapply (mk_SND X c); isplitl [HgN] <;> iassumption
    isplitl [HsT]; · iexact HsT
    isplitl [HgR HcR]
    · iapply (mk_RCV X c); isplitl [HgR] <;> iassumption
    isplitl [Hw]; · iexact Hw
    ihave HG := (g_pieces c) $$ [Hg HW]
    · isplitl [Hg] <;> iassumption
    icases HG with ⟨HG0, HG1⟩
    isplitl [HG0]; · iexact HG0
    isplitl [HG1]; · iexact HG1
    isplitl [Hx]; · iexact Hx
    isplitl [Ha]; · iapply (a_pieces c); iexact Ha
    isplitl [Ho] <;> iassumption
  · iexact Hb0

theorem post_elim [∀ e, Nonempty (Elt F e)] (c : Dev nD) :
    (iprop(POST X Wv c ∗ BO c) : sProp 𝕄)
      ⊢ iprop((zeros c ∗ scr c ∗ wPts c Finset.univ (Wv c)) ∗ xPts c Finset.univ (X c) ∗ oPts c (Ov X Wv c 7) ∗ Own c 0) := by
  have hs : (B31 (fun d => iprop(sendPay X c d ∗ semVal (sendCell c d) 0)) : sProp 𝕄) = iprop(B31 (sendPay X c) ∗ B31 (fun d => semVal (sendCell c d) 0)) := bigSep_sep' _ _ _
  have hr : (B31 (RCD X c) : sProp 𝕄) = iprop(B31 (recvPay X c) ∗ B31 (fun d => semVal (recvCell c d) 0)) := bigSep_sep' _ _ _
  unfold zeros scr POST
  rw [w_pieces, x_pieces, hs, hr]
  iintro ⟨⟨HzB, ⟨Hxs, HzS⟩, ⟨Hb, HzR⟩, Hw, HG0, HG1, Hx, Ha, Ho, HO⟩, Hb0⟩
  ihave HG := (g_join c) $$ [HG0 HG1]
  · isplitl [HG0] <;> iassumption
  icases HG with ⟨Hg, HW⟩
  isplitr [Hx Hxs Ho HO]
  · isplitl [HzB HzS HzR HW]
    · isplitl [HzB]; · iexact HzB
      isplitl [HzS]; · iexact HzS
      isplitl [HzR] <;> iassumption
    isplitl [Hb Hb0 Ha Hg]
    · isplitl [Hb Hb0]
      · iapply (b_join X c); isplitl [Hb0] <;> iassumption
      isplitl [Ha]
      · iapply (a_join c); iexact Ha
      iexact Hg
    iexact Hw
  isplitl [Hx Hxs]
  · isplitl [Hx] <;> iassumption
  isplitl [Ho] <;> iassumption

end Cert.KernelIdeal.A2A
-- ==== Proof.ILaunch.lean ====
/-
The kernel launched on all devices: every run ends, the arguments as they were, every counter at zero, and every
device's result array at the contents `Ov` names.
-/
module

public import proofs.«01_k».proof.Proof.IPieces
public import Idealize.ShloMosaic.Lib.Pipeline.ValueKit
public import Idealize.ShloMosaic.Lib.Pipeline.CollectiveSegs
public import Idealize.ShloMosaic.Lib.Quiescent

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- Device `c`'s columns of the left operand; -/
def Xs (c : Dev nD) : Vec F S8192x256 .bf16 := m ((c : Thread nD τ).loc main_arg0)
/-- its weights. -/
def Ws (c : Dev nD) : Vec F S8192x4096 .f32 := m ((c : Thread nD τ).loc main_arg1)

def Φ₀ (c : Dev nD) : sProp 𝕄 := iprop(start (Xs m) (Ws m) c ∗ scr c)
def Φ₁ (c : Dev nD) : sProp 𝕄 := iprop(zeros c ∗ scr c ∗ wPts c Finset.univ (Ws m c))

def dats (_ : Fin 1) (c : Dev nD) : Dat τ (Elt F) Unit ℕ UU ℕ cfg0 c where
  A w := m ((cfg0.win w).arr.view.loc (c : Thread nD τ))
  after w _ := match w with
    | ⟨0, _⟩ => Xs m c
    | ⟨1, _⟩ => Ov (Xs m) (Ws m) c 7
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem idx_x : ∀ a, win0_0.index t0_0 a = 0 := by decide
theorem idx_o : ∀ a, win0_1.index t0_0 a = 0 := by decide

/-- The whole array, staged, is the array. -/
theorem before_x (c : Dev nD) (d) : (dats m 0 c).before (0 : Fin 2) t0_0 d = Xs m c := by
  unfold Dat.before
  rw [if_pos (fetch0_0 t0_0)]
  funext i
  show m ((c : Thread nD τ).loc main_arg0) _ = m ((c : Thread nD τ).loc main_arg0) i
  refine congrArg _ (funext fun a => Fin.ext ?_)
  blk_simp
  rw [idx_x a, Nat.zero_mul]
  exact Nat.zero_add _

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (Xs m c) ∗ stg c cc0_stg1_0 (Ov (Xs m) (Ws m) c 7))

theorem enter (c : Dev nD) : bodyPre m c ⊢ iprop(PRE (Xs m) (Ws m) c ∗ BO c) := by
  unfold bodyPre Φ₀ Dat.owesAt Pipeline.owesWithin
  iintro ⟨⟨Hs, Hscr⟩, ⟨%W, %hW, HO⟩, ⟨%d0, %g0, %hg0, Hx⟩, ⟨%d1, %g1, %hg1, Hout⟩⟩
  have hx : g0 = Xs m c := hg0.trans (before_x m c d0)
  subst hx
  iapply (pre_intro (Xs m) (Ws m) c)
  unfold Own
  isplitl [Hs]; · iexact Hs
  isplitl [Hscr]; · iexact Hscr
  isplitl [Hx]; · iexact Hx
  isplitl [Hout]; · iexists g1; iexact Hout
  iexists W; iexact HO

theorem leave (c : Dev nD) : iprop(POST (Xs m) (Ws m) c ∗ BO c) ⊢ bodyPost m c := by
  refine (post_elim (Xs m) (Ws m) c).trans ?_
  unfold bodyPost Φ₁ Own Dat.owesAt Pipeline.owesWithin
  rw [show (dats m 0 c).owed t0_0.succ = 0 from rfl]
  iintro ⟨⟨Hz, Hs, Hw⟩, Hx, Ho, ⟨%W, HO⟩⟩
  isplitl [Hz Hs Hw]
  · isplitl [Hz]; · iexact Hz
    isplitl [Hs] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) :
    bodyPre m c ⊢ wp frame (wpE (defs₀ (F := F)) 𝒱₀ (c : Thread nD τ) none) Set.univ (bodyAt0 (F := F) t0_0) (fun _ => bodyPost m c) := by
  rw [body_eq]
  simp only [wp_deviceId]
  iintro H
  ihave H := (enter m c) $$ H
  icases H with ⟨HP, HB⟩
  iapply (wp_body (Xs m) (Ws m) c fun _ => bodyPost m c)
  isplitl [HP]; · iexact HP
  iintro HP
  iapply (leave m c)
  isplitl [HP] <;> iassumption

set_option maxRecDepth 65536 in
theorem call_eq : defs₀ (F := F) Proc.tc 0 (t0_0, cfg0.slots t0_0) = bodyAt0 (F := F) t0_0 := rfl

theorem body_obligation (c : Dev nD) : BodyObligation (dats (F := F) m 0 c) (defs₀ (F := F)) 𝒱₀ () Set.univ := fun t => by
  rw [fin_N0 t]
  rw [bigSep_W, bigSep_W]
  simp only [owns_whole_eq]
  rw [call_eq]
  have h := sound_body m c
  generalize bodyAt0 (F := F) t0_0 = B at h ⊢
  exact h

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xs m) c)
      ⊢ |={Set.univ}=> iprop(start (Xs m) (Ws m) c ∗ emp) := by
  rw [Pipeline.unscopedRestP_none, unscopedRest0_eq]
  unfold start
  iintro ⟨Hw, Hlev, Hcr, -, HG⟩
  ihave Hc := (creds (F := F) c) $$ Hcr
  imodintro
  isplitl
  · isplitl [HG]; · iexact HG
    isplitl [Hc]; · iexact Hc
    isplitl [Hlev]; · iexact Hlev
    iexact Hw
  · iempintro

theorem phi0_intro (c : Dev nD) :
    iprop(start (Xs m) (Ws m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device ends with: its barrier's counter at zero, its weights. -/
def endY (c : Dev nD) : sProp 𝕄 := iprop(unscopedSems0 c ∗ wPts c Finset.univ (Ws m c))

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = Φ₁ m c from rfl, scopedRest0_eq, ownSems0_eq]
  unfold Φ₁ endY zeros scr
  rw [unscopedSems0_eq]
  iintro ⟨⟨HzB, Hz⟩, Hr, Hw⟩
  isplitl [HzB Hw]
  · isplitl [HzB] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (stage_lt w s) _ (by
      rcases t with ⟨_ | _, ht⟩
      · exact Or.inl rfl
      · exact Or.inr rfl)

/-- What is read of a device at the end beside its windows' arrays. -/
def QY (c : Dev nD) (s : MemSt nD τ sig (Elt F)) : Prop :=
  (∀ sm : SemLoc sig, sm.isScoped .tc = false → s.sem ((c.tc : Thread nD τ), sm) = 0) ∧ s.mem ((c : Thread nD τ).loc main_arg1) = Ws m c

theorem endY_read (c : Dev nD) (s' : Phys nD τ sig (Elt F)) :
    iprop(endY m c ∗ emp ∗ SI s') ⊢ |={Set.univ}=> iprop(⌜QY m c s'.mem⌝ ∗ SI s') := by
  unfold endY
  iintro ⟨⟨Hu, Hw⟩, -, HSI⟩
  imod (Pipeline.unscopedSems0_read (X := unscopedSems0 c) (c := c) fupd_intro s') $$ [Hu HSI] with ⟨%h, HSI⟩
  · isplitl [Hu] <;> iassumption
  ihave %hw := (SI_pointsTo_agree (st := s') (ℓ := (c : Thread nD τ).loc main_arg1) (I := Finset.univ) (q := fullShare) (f := Ws m c)) $$ [HSI Hw]
  · isplitl [HSI] <;> iassumption
  imodintro
  isplitr
  · ipureintro
    exact ⟨h, funext fun i => hw i (Finset.mem_univ i)⟩
  · iexact HSI

theorem fund_u₀ : (ownU (u₀ : UU) : sProp 𝕄)
    ⊢ |={Set.univ}=> iprop(BI.own (EP (initOf (Pipeline.cells cfgs cellOf_inj) (Pipeline.launchToks cfgs cellOf_inj))) ∗ bigSep Finset.univ (G (F := F) (Xs m))) := by
  unfold u₀
  iintro Hu
  ihave H := (ownU_pair _ _) $$ Hu
  icases H with ⟨HP, HX⟩
  ihave H2 := (own_pair_emb _ _ _) $$ HX
  icases H2 with ⟨HX, -⟩
  imod (show BI.own (((Emb.inl : Emb UB (UB × Counters)).trans embR) (initOf exCells exToks)) ⊢ (|==> bigSep Finset.univ (G (Xs m)) : sProp 𝕄) from fund (Xs m)) $$ HX with HG
  imodintro
  isplitl [HP] <;> iassumption

/-! ## The run -/

/-- The run's end, device by device. -/
def Ends (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg1) = Ws m c) ∧ r.2.sem = fun _ => 0

theorem run_ends : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Xs m)) (G' := G' (Xs m)) (u₀ := u₀) (hu₀ := fund_u₀ m)
    (hglob := glob (Xs m))
    (hA := fun _ _ => rfl) (hpf := fun _ k => k.elim0)
    (X := start (Xs m) (Ws m)) (Y := endY m) (Z := fun _ => iprop(emp))
    (hX := start_intro m ρ) (hin := phi0_intro m) (hout := phi1_exit m)
    (QY := QY m) (hY := endY_read m)
    (hQ := fun _ h hs => ⟨fun c => ⟨(h c).1, (h c).2.2.2⟩, sem_eq_zero hs fun c => (h c).2.2.1⟩)

/-- The result array's one block is the array. -/
theorem arrAt_out (c : Dev nD) : (dats m 0 c).arrAt (1 : Fin 2) cfg0.N = Ov (Xs m) (Ws m) c 7 := by
  refine (dats m 0 c).arrAt_eq_of_after_last 1 t0_0 (by decide +kernel) _ fun j => ?_
  blk_simp
  rfl

/-- From any memory with every counter at zero: every run ends, on every device the arguments are what they were and
    the result is `Ov`'s, and every counter is at zero. -/
theorem run_main : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = Ov (Xs m) (Ws m) c 7) ∧ r.2.sem = fun _ => 0 :=
  (θ_run defs _ _).mono (fun r h => ⟨fun c => ⟨((h.1 c).1 0).trans ((dats m 0 c).arrAt_in 0 rfl _), (h.1 c).2,
    ((h.1 c).1 1).trans (arrAt_out m c)⟩, h.2⟩) (run_ends m ρ)

end Cert.KernelIdeal.A2A
-- ==== Proof.lean ====
/-
The claims, put together: the kernel's run at the bits and over the extended reals, the reference's run, and the
equation between what the two leave.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.KLaunch
public import proofs.«01_k».proof.Proof.ILaunch
public import Idealize.ShloMosaic.Adequacy
public import Idealize.ShloMosaic.Init

@[expose] public section

noncomputable section

namespace Cert.Proof

open Idealize.ShloMosaic Idealize.ShloMosaic.TcCoe Idealize.SL.Sem

/-- The kernel at the bits runs, leaves its arguments as they were and every counter at zero. -/
theorem frame_kernel : quiescent_Kernel := by
  intro m ρ _
  exact (θ_run Cert.Kernel.defs _ _).mono (fun _ h => ⟨fun c => ⟨(h.1 c).1, (h.1 c).2.1⟩, h.2⟩)
    (Cert.Kernel.A2A.run_main (F := Bits) m ρ)

/-- So does the kernel over the extended reals. -/
theorem frame_kernelIdeal : quiescent_KernelIdeal := by
  intro m ρ _
  exact (θ_run Cert.KernelIdeal.defs _ _).mono (fun _ h => ⟨fun c => ⟨(h.1 c).1, (h.1 c).2.1⟩, h.2⟩)
    (Cert.KernelIdeal.A2A.run_main (F := Ideal) m ρ)

/-- And the reference, which has no counters. -/
theorem frame_reference : quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- From the same matrices, the devices' results are the blocks of rows of the reference's result. -/
theorem value : algebraic_KernelIdeal_ReferenceIdeal := by
  intro m g m' g' _ h
  refine ⟨Cert.ReferenceIdeal.A2A.prod (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ?_) (Cert.KernelIdeal.A2A.run_main (F := Ideal) m g)
    obtain ⟨h0, h1, h2⟩ := hr.1 c
    refine ⟨h2.trans ?_, h0, h1⟩
    exact Cert.ReferenceIdeal.A2A.result_eq _ _ _ _ (fun s => (h s).1) (fun s => (h s).2) c
  · exact (θ_run Cert.ReferenceIdeal.defs _ _).mono (fun r hr => hr 0) (Cert.ReferenceIdeal.Value.run (F := Ideal) m' g')

/-- Every claim. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
